-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 2048, 1024]⟩ ⟨3, ![4, 2048, 8192]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 1024]⟩ ⟨2, ![4, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S4x1024 : Shape := ⟨2, ![4, 1024]⟩
abbrev S1024x1024 : Shape := ⟨2, ![1024, 1024]⟩
abbrev S2x264x1024 : Shape := ⟨3, ![2, 264, 1024]⟩
abbrev S2x256x1024 : Shape := ⟨3, ![2, 256, 1024]⟩
abbrev S_ : Shape := ⟨0, ![]⟩
abbrev S2x8x1024 : Shape := ⟨3, ![2, 8, 1024]⟩
abbrev S1x1024 : Shape := ⟨2, ![1, 1024]⟩
abbrev S1024 : Shape := ⟨1, ![1024]⟩
abbrev S1x1x1024 : Shape := ⟨3, ![1, 1, 1024]⟩
abbrev S1x256x1024 : Shape := ⟨3, ![1, 256, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S1024x1024, .f32⟩
  | .hbm, ⟨3, _⟩ => ⟨S4x2048x1024, .f32⟩
  | .local _ .vmem, ⟨0, _⟩ => ⟨S4x1024, .f32⟩
  | .local _ .vmem, ⟨1, _⟩ => ⟨S1024x1024, .f32⟩
  | .local _ .vmem, ⟨2, _⟩ => ⟨S2x264x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S2x256x1024, .f32⟩
  | .local _ .vmem, ⟨7, _⟩ => ⟨S2x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 3 10 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_11 : BitVec 32 := 1#32
  let v13 : BitVec 32 := Scalar.muli v5 c1_i32_11
  let v14 : BitVec 32 := Scalar.addi c0_i32_12 v13
  v14.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_14 : BitVec 32 := 1#32
  let v15 : BitVec 32 := Scalar.muli v7 c1_i32_14
  let v16 : BitVec 32 := Scalar.addi c0_i32_15 v15
  v16.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v17 : BitVec 32 := Scalar.muli v2 c256_i32
  v17
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v17 : BitVec 32 := Scalar.muli v2 c256_i32
  let v18 : BitVec 32 := v17
  let c8_i32_16 : BitVec 32 := 8#32
  let v19 : BitVec 32 := Scalar.subi v18 c8_i32_16
  let c0_i32_17 : BitVec 32 := 0#32
  let v20 : BitVec 32 := Scalar.maxsi v19 c0_i32_17
  v20
def k0_off1 (d0 : Dev nD) : Fin 3 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v17 : BitVec 32 := Scalar.muli v2 c256_i32
  let v18 : BitVec 32 := v17
  let c0_i32_22 : BitVec 32 := 0#32
  ![0, v18.toNat, 0]
def k0_off2 (d0 : Dev nD) : Fin 3 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v17 : BitVec 32 := Scalar.muli v2 c256_i32
  let v18 : BitVec 32 := v17
  let c8_i32_16 : BitVec 32 := 8#32
  let v19 : BitVec 32 := Scalar.subi v18 c8_i32_16
  let c0_i32_17 : BitVec 32 := 0#32
  let v20 : BitVec 32 := Scalar.maxsi v19 c0_i32_17
  let v21 : BitVec 32 := v20
  let c0_i32_27 : BitVec 32 := 0#32
  ![0, v21.toNat, 0]
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_74 : BitVec 32 := 256#32
  let v85 : BitVec 32 := Scalar.muli v2 c256_i32_74
  v85
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_74 : BitVec 32 := 256#32
  let v85 : BitVec 32 := Scalar.muli v2 c256_i32_74
  let v86 : BitVec 32 := v85
  let c8_i32_75 : BitVec 32 := 8#32
  let v87 : BitVec 32 := Scalar.subi v86 c8_i32_75
  let c0_i32_76 : BitVec 32 := 0#32
  let v88 : BitVec 32 := Scalar.maxsi v87 c0_i32_76
  v88
def k0_off3 (d0 : Dev nD) : Fin 3 → Nat :=
  let c2_i32_80 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_74 : BitVec 32 := 256#32
  let v85 : BitVec 32 := Scalar.muli v2 c256_i32_74
  let v86 : BitVec 32 := v85
  let c0_i32_81 : BitVec 32 := 0#32
  ![2, v86.toNat, 0]
def k0_off4 (d0 : Dev nD) : Fin 3 → Nat :=
  let c2_i32_85 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_74 : BitVec 32 := 256#32
  let v85 : BitVec 32 := Scalar.muli v2 c256_i32_74
  let v86 : BitVec 32 := v85
  let c8_i32_75 : BitVec 32 := 8#32
  let v87 : BitVec 32 := Scalar.subi v86 c8_i32_75
  let c0_i32_76 : BitVec 32 := 0#32
  let v88 : BitVec 32 := Scalar.maxsi v87 c0_i32_76
  let v89 : BitVec 32 := v88
  let c0_i32_86 : BitVec 32 := 0#32
  ![2, v89.toNat, 0]
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let v153 : BitVec 32 := Scalar.subi v2 c0_i32_142
  let c16_i32 : BitVec 32 := 16#32
  let v154 : BitVec 32 := Scalar.addi v153 c16_i32
  let c8_i32_143 : BitVec 32 := 8#32
  let v155 : BitVec 32 := Scalar.remsi v154 c8_i32_143
  let c256_i32_155 : BitVec 32 := 256#32
  let v167 : BitVec 32 := Scalar.muli v155 c256_i32_155
  v167
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_144 : BitVec 32 := 0#32
  let v156 : BitVec 32 := Scalar.subi v2 c0_i32_144
  let c1_i32_145 : BitVec 32 := 1#32
  let v157 : BitVec 32 := Scalar.subi v156 c1_i32_145
  let c16_i32_146 : BitVec 32 := 16#32
  let v158 : BitVec 32 := Scalar.addi v157 c16_i32_146
  let c8_i32_147 : BitVec 32 := 8#32
  let v159 : BitVec 32 := Scalar.remsi v158 c8_i32_147
  let c256_i32_156 : BitVec 32 := 256#32
  let v169 : BitVec 32 := Scalar.muli v159 c256_i32_156
  v169
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_148 : BitVec 32 := 0#32
  let v160 : BitVec 32 := Scalar.addi v2 c0_i32_148
  let c16_i32_149 : BitVec 32 := 16#32
  let v161 : BitVec 32 := Scalar.addi v160 c16_i32_149
  let c8_i32_150 : BitVec 32 := 8#32
  let v162 : BitVec 32 := Scalar.remsi v161 c8_i32_150
  let c256_i32_157 : BitVec 32 := 256#32
  let v171 : BitVec 32 := Scalar.muli v162 c256_i32_157
  v171
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_151 : BitVec 32 := 0#32
  let v163 : BitVec 32 := Scalar.addi v2 c0_i32_151
  let c1_i32_152 : BitVec 32 := 1#32
  let v164 : BitVec 32 := Scalar.addi v163 c1_i32_152
  let c16_i32_153 : BitVec 32 := 16#32
  let v165 : BitVec 32 := Scalar.addi v164 c16_i32_153
  let c8_i32_154 : BitVec 32 := 8#32
  let v166 : BitVec 32 := Scalar.remsi v165 c8_i32_154
  let c256_i32_158 : BitVec 32 := 256#32
  let v173 : BitVec 32 := Scalar.muli v166 c256_i32_158
  v173
def k0_off5 (d0 : Dev nD) (c0_i32_142 : BitVec 32) : Fin 3 → Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.subi v2 c0_i32_142
  let c16_i32 : BitVec 32 := 16#32
  let v154 : BitVec 32 := Scalar.addi v153 c16_i32
  let c8_i32_143 : BitVec 32 := 8#32
  let v155 : BitVec 32 := Scalar.remsi v154 c8_i32_143
  let c256_i32_155 : BitVec 32 := 256#32
  let v167 : BitVec 32 := Scalar.muli v155 c256_i32_155
  let v168 : BitVec 32 := v167
  let c0_i32_166 : BitVec 32 := 0#32
  ![0, v168.toNat, 0]
def k0_dev5 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_163 : BitVec 32 := 1#32
  let v175 : BitVec 32 := Scalar.muli v7 c1_i32_163
  let v176 : BitVec 32 := Scalar.addi c0_i32_164 v175
  v176.toNat
def k0_off6 (d0 : Dev nD) (c0_i32_148 : BitVec 32) : Fin 3 → Nat :=
  let c2_i32_169 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v160 : BitVec 32 := Scalar.addi v2 c0_i32_148
  let c16_i32_149 : BitVec 32 := 16#32
  let v161 : BitVec 32 := Scalar.addi v160 c16_i32_149
  let c8_i32_150 : BitVec 32 := 8#32
  let v162 : BitVec 32 := Scalar.remsi v161 c8_i32_150
  let c256_i32_157 : BitVec 32 := 256#32
  let v171 : BitVec 32 := Scalar.muli v162 c256_i32_157
  let v172 : BitVec 32 := v171
  let c0_i32_170 : BitVec 32 := 0#32
  ![2, v172.toNat, 0]
def k0_dev6 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_167 : BitVec 32 := 1#32
  let v178 : BitVec 32 := Scalar.muli v5 c1_i32_167
  let v179 : BitVec 32 := Scalar.addi c0_i32_168 v178
  v179.toNat
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_144 : BitVec 32 := 0#32
  let v156 : BitVec 32 := Scalar.subi v2 c0_i32_144
  let c1_i32_145 : BitVec 32 := 1#32
  let v157 : BitVec 32 := Scalar.subi v156 c1_i32_145
  let c16_i32_146 : BitVec 32 := 16#32
  let v158 : BitVec 32 := Scalar.addi v157 c16_i32_146
  let c8_i32_147 : BitVec 32 := 8#32
  let v159 : BitVec 32 := Scalar.remsi v158 c8_i32_147
  let c256_i32_171 : BitVec 32 := 256#32
  let v181 : BitVec 32 := Scalar.muli v159 c256_i32_171
  v181
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_144 : BitVec 32 := 0#32
  let v156 : BitVec 32 := Scalar.subi v2 c0_i32_144
  let c1_i32_145 : BitVec 32 := 1#32
  let v157 : BitVec 32 := Scalar.subi v156 c1_i32_145
  let c16_i32_146 : BitVec 32 := 16#32
  let v158 : BitVec 32 := Scalar.addi v157 c16_i32_146
  let c8_i32_147 : BitVec 32 := 8#32
  let v159 : BitVec 32 := Scalar.remsi v158 c8_i32_147
  let c256_i32_171 : BitVec 32 := 256#32
  let v181 : BitVec 32 := Scalar.muli v159 c256_i32_171
  let v182 : BitVec 32 := v181
  let c8_i32_172 : BitVec 32 := 8#32
  let v183 : BitVec 32 := Scalar.subi v182 c8_i32_172
  let c0_i32_173 : BitVec 32 := 0#32
  let v184 : BitVec 32 := Scalar.maxsi v183 c0_i32_173
  v184
def k0_off7 (d0 : Dev nD) (c0_i32_144 : BitVec 32) : Fin 3 → Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v156 : BitVec 32 := Scalar.subi v2 c0_i32_144
  let c1_i32_145 : BitVec 32 := 1#32
  let v157 : BitVec 32 := Scalar.subi v156 c1_i32_145
  let c16_i32_146 : BitVec 32 := 16#32
  let v158 : BitVec 32 := Scalar.addi v157 c16_i32_146
  let c8_i32_147 : BitVec 32 := 8#32
  let v159 : BitVec 32 := Scalar.remsi v158 c8_i32_147
  let c256_i32_171 : BitVec 32 := 256#32
  let v181 : BitVec 32 := Scalar.muli v159 c256_i32_171
  let v182 : BitVec 32 := v181
  let c0_i32_178 : BitVec 32 := 0#32
  ![0, v182.toNat, 0]
def k0_off8 (d0 : Dev nD) (c0_i32_144 : BitVec 32) : Fin 3 → Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v156 : BitVec 32 := Scalar.subi v2 c0_i32_144
  let c1_i32_145 : BitVec 32 := 1#32
  let v157 : BitVec 32 := Scalar.subi v156 c1_i32_145
  let c16_i32_146 : BitVec 32 := 16#32
  let v158 : BitVec 32 := Scalar.addi v157 c16_i32_146
  let c8_i32_147 : BitVec 32 := 8#32
  let v159 : BitVec 32 := Scalar.remsi v158 c8_i32_147
  let c256_i32_171 : BitVec 32 := 256#32
  let v181 : BitVec 32 := Scalar.muli v159 c256_i32_171
  let v182 : BitVec 32 := v181
  let c8_i32_172 : BitVec 32 := 8#32
  let v183 : BitVec 32 := Scalar.subi v182 c8_i32_172
  let c0_i32_173 : BitVec 32 := 0#32
  let v184 : BitVec 32 := Scalar.maxsi v183 c0_i32_173
  let v185 : BitVec 32 := v184
  let c0_i32_183 : BitVec 32 := 0#32
  ![0, v185.toNat, 0]
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_151 : BitVec 32 := 0#32
  let v163 : BitVec 32 := Scalar.addi v2 c0_i32_151
  let c1_i32_152 : BitVec 32 := 1#32
  let v164 : BitVec 32 := Scalar.addi v163 c1_i32_152
  let c16_i32_153 : BitVec 32 := 16#32
  let v165 : BitVec 32 := Scalar.addi v164 c16_i32_153
  let c8_i32_154 : BitVec 32 := 8#32
  let v166 : BitVec 32 := Scalar.remsi v165 c8_i32_154
  let c256_i32_239 : BitVec 32 := 256#32
  let v249 : BitVec 32 := Scalar.muli v166 c256_i32_239
  v249
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_151 : BitVec 32 := 0#32
  let v163 : BitVec 32 := Scalar.addi v2 c0_i32_151
  let c1_i32_152 : BitVec 32 := 1#32
  let v164 : BitVec 32 := Scalar.addi v163 c1_i32_152
  let c16_i32_153 : BitVec 32 := 16#32
  let v165 : BitVec 32 := Scalar.addi v164 c16_i32_153
  let c8_i32_154 : BitVec 32 := 8#32
  let v166 : BitVec 32 := Scalar.remsi v165 c8_i32_154
  let c256_i32_239 : BitVec 32 := 256#32
  let v249 : BitVec 32 := Scalar.muli v166 c256_i32_239
  let v250 : BitVec 32 := v249
  let c8_i32_240 : BitVec 32 := 8#32
  let v251 : BitVec 32 := Scalar.subi v250 c8_i32_240
  let c0_i32_241 : BitVec 32 := 0#32
  let v252 : BitVec 32 := Scalar.maxsi v251 c0_i32_241
  v252
def k0_off9 (d0 : Dev nD) (c0_i32_151 : BitVec 32) : Fin 3 → Nat :=
  let c2_i32_245 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v163 : BitVec 32 := Scalar.addi v2 c0_i32_151
  let c1_i32_152 : BitVec 32 := 1#32
  let v164 : BitVec 32 := Scalar.addi v163 c1_i32_152
  let c16_i32_153 : BitVec 32 := 16#32
  let v165 : BitVec 32 := Scalar.addi v164 c16_i32_153
  let c8_i32_154 : BitVec 32 := 8#32
  let v166 : BitVec 32 := Scalar.remsi v165 c8_i32_154
  let c256_i32_239 : BitVec 32 := 256#32
  let v249 : BitVec 32 := Scalar.muli v166 c256_i32_239
  let v250 : BitVec 32 := v249
  let c0_i32_246 : BitVec 32 := 0#32
  ![2, v250.toNat, 0]
def k0_off10 (d0 : Dev nD) (c0_i32_151 : BitVec 32) : Fin 3 → Nat :=
  let c2_i32_250 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v163 : BitVec 32 := Scalar.addi v2 c0_i32_151
  let c1_i32_152 : BitVec 32 := 1#32
  let v164 : BitVec 32 := Scalar.addi v163 c1_i32_152
  let c16_i32_153 : BitVec 32 := 16#32
  let v165 : BitVec 32 := Scalar.addi v164 c16_i32_153
  let c8_i32_154 : BitVec 32 := 8#32
  let v166 : BitVec 32 := Scalar.remsi v165 c8_i32_154
  let c256_i32_239 : BitVec 32 := 256#32
  let v249 : BitVec 32 := Scalar.muli v166 c256_i32_239
  let v250 : BitVec 32 := v249
  let c8_i32_240 : BitVec 32 := 8#32
  let v251 : BitVec 32 := Scalar.subi v250 c8_i32_240
  let c0_i32_241 : BitVec 32 := 0#32
  let v252 : BitVec 32 := Scalar.maxsi v251 c0_i32_241
  let v253 : BitVec 32 := v252
  let c0_i32_251 : BitVec 32 := 0#32
  ![2, v253.toNat, 0]
def k0_dev7 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_356 : BitVec 32 := 1#32
  let v345 : BitVec 32 := Scalar.muli v5 c1_i32_356
  let v346 : BitVec 32 := Scalar.addi c0_i32_357 v345
  v346.toNat
def k0_dev8 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_359 : BitVec 32 := 1#32
  let v347 : BitVec 32 := Scalar.muli v7 c1_i32_359
  let v348 : BitVec 32 := Scalar.addi c0_i32_360 v347
  v348.toNat
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_361 : BitVec 32 := 1#32
  let v349 : BitVec 32 := Scalar.subi v2 c1_i32_361
  let c16_i32_362 : BitVec 32 := 16#32
  let v350 : BitVec 32 := Scalar.addi v349 c16_i32_362
  let c8_i32_363 : BitVec 32 := 8#32
  let v351 : BitVec 32 := Scalar.remsi v350 c8_i32_363
  let c256_i32_375 : BitVec 32 := 256#32
  let v363 : BitVec 32 := Scalar.muli v351 c256_i32_375
  v363
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_364 : BitVec 32 := 1#32
  let v352 : BitVec 32 := Scalar.subi v2 c1_i32_364
  let c1_i32_365 : BitVec 32 := 1#32
  let v353 : BitVec 32 := Scalar.subi v352 c1_i32_365
  let c16_i32_366 : BitVec 32 := 16#32
  let v354 : BitVec 32 := Scalar.addi v353 c16_i32_366
  let c8_i32_367 : BitVec 32 := 8#32
  let v355 : BitVec 32 := Scalar.remsi v354 c8_i32_367
  let c256_i32_376 : BitVec 32 := 256#32
  let v365 : BitVec 32 := Scalar.muli v355 c256_i32_376
  v365
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let v356 : BitVec 32 := Scalar.addi v2 c1_i32_368
  let c16_i32_369 : BitVec 32 := 16#32
  let v357 : BitVec 32 := Scalar.addi v356 c16_i32_369
  let c8_i32_370 : BitVec 32 := 8#32
  let v358 : BitVec 32 := Scalar.remsi v357 c8_i32_370
  let c256_i32_377 : BitVec 32 := 256#32
  let v367 : BitVec 32 := Scalar.muli v358 c256_i32_377
  v367
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_371 : BitVec 32 := 1#32
  let v359 : BitVec 32 := Scalar.addi v2 c1_i32_371
  let c1_i32_372 : BitVec 32 := 1#32
  let v360 : BitVec 32 := Scalar.addi v359 c1_i32_372
  let c16_i32_373 : BitVec 32 := 16#32
  let v361 : BitVec 32 := Scalar.addi v360 c16_i32_373
  let c8_i32_374 : BitVec 32 := 8#32
  let v362 : BitVec 32 := Scalar.remsi v361 c8_i32_374
  let c256_i32_378 : BitVec 32 := 256#32
  let v369 : BitVec 32 := Scalar.muli v362 c256_i32_378
  v369
def k0_dev9 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_383 : BitVec 32 := 1#32
  let v371 : BitVec 32 := Scalar.muli v7 c1_i32_383
  let v372 : BitVec 32 := Scalar.addi c0_i32_384 v371
  v372.toNat
def k0_dev10 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_387 : BitVec 32 := 1#32
  let v374 : BitVec 32 := Scalar.muli v5 c1_i32_387
  let v375 : BitVec 32 := Scalar.addi c0_i32_388 v374
  v375.toNat
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_364 : BitVec 32 := 1#32
  let v352 : BitVec 32 := Scalar.subi v2 c1_i32_364
  let c1_i32_365 : BitVec 32 := 1#32
  let v353 : BitVec 32 := Scalar.subi v352 c1_i32_365
  let c16_i32_366 : BitVec 32 := 16#32
  let v354 : BitVec 32 := Scalar.addi v353 c16_i32_366
  let c8_i32_367 : BitVec 32 := 8#32
  let v355 : BitVec 32 := Scalar.remsi v354 c8_i32_367
  let c256_i32_391 : BitVec 32 := 256#32
  let v377 : BitVec 32 := Scalar.muli v355 c256_i32_391
  v377
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_364 : BitVec 32 := 1#32
  let v352 : BitVec 32 := Scalar.subi v2 c1_i32_364
  let c1_i32_365 : BitVec 32 := 1#32
  let v353 : BitVec 32 := Scalar.subi v352 c1_i32_365
  let c16_i32_366 : BitVec 32 := 16#32
  let v354 : BitVec 32 := Scalar.addi v353 c16_i32_366
  let c8_i32_367 : BitVec 32 := 8#32
  let v355 : BitVec 32 := Scalar.remsi v354 c8_i32_367
  let c256_i32_391 : BitVec 32 := 256#32
  let v377 : BitVec 32 := Scalar.muli v355 c256_i32_391
  let v378 : BitVec 32 := v377
  let c8_i32_392 : BitVec 32 := 8#32
  let v379 : BitVec 32 := Scalar.subi v378 c8_i32_392
  let c0_i32_393 : BitVec 32 := 0#32
  let v380 : BitVec 32 := Scalar.maxsi v379 c0_i32_393
  v380
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_371 : BitVec 32 := 1#32
  let v359 : BitVec 32 := Scalar.addi v2 c1_i32_371
  let c1_i32_372 : BitVec 32 := 1#32
  let v360 : BitVec 32 := Scalar.addi v359 c1_i32_372
  let c16_i32_373 : BitVec 32 := 16#32
  let v361 : BitVec 32 := Scalar.addi v360 c16_i32_373
  let c8_i32_374 : BitVec 32 := 8#32
  let v362 : BitVec 32 := Scalar.remsi v361 c8_i32_374
  let c256_i32_459 : BitVec 32 := 256#32
  let v445 : BitVec 32 := Scalar.muli v362 c256_i32_459
  v445
def k0_mult20 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_371 : BitVec 32 := 1#32
  let v359 : BitVec 32 := Scalar.addi v2 c1_i32_371
  let c1_i32_372 : BitVec 32 := 1#32
  let v360 : BitVec 32 := Scalar.addi v359 c1_i32_372
  let c16_i32_373 : BitVec 32 := 16#32
  let v361 : BitVec 32 := Scalar.addi v360 c16_i32_373
  let c8_i32_374 : BitVec 32 := 8#32
  let v362 : BitVec 32 := Scalar.remsi v361 c8_i32_374
  let c256_i32_459 : BitVec 32 := 256#32
  let v445 : BitVec 32 := Scalar.muli v362 c256_i32_459
  let v446 : BitVec 32 := v445
  let c8_i32_460 : BitVec 32 := 8#32
  let v447 : BitVec 32 := Scalar.subi v446 c8_i32_460
  let c0_i32_461 : BitVec 32 := 0#32
  let v448 : BitVec 32 := Scalar.maxsi v447 c0_i32_461
  v448
def k0_dev11 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_576 : BitVec 32 := 1#32
  let v541 : BitVec 32 := Scalar.muli v5 c1_i32_576
  let v542 : BitVec 32 := Scalar.addi c0_i32_577 v541
  v542.toNat
def k0_dev12 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_579 : BitVec 32 := 1#32
  let v543 : BitVec 32 := Scalar.muli v7 c1_i32_579
  let v544 : BitVec 32 := Scalar.addi c0_i32_580 v543
  v544.toNat
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_581 : BitVec 32 := 2#32
  let v545 : BitVec 32 := Scalar.subi v2 c2_i32_581
  let c16_i32_582 : BitVec 32 := 16#32
  let v546 : BitVec 32 := Scalar.addi v545 c16_i32_582
  let c8_i32_583 : BitVec 32 := 8#32
  let v547 : BitVec 32 := Scalar.remsi v546 c8_i32_583
  let c256_i32_595 : BitVec 32 := 256#32
  let v559 : BitVec 32 := Scalar.muli v547 c256_i32_595
  v559
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_584 : BitVec 32 := 2#32
  let v548 : BitVec 32 := Scalar.subi v2 c2_i32_584
  let c1_i32_585 : BitVec 32 := 1#32
  let v549 : BitVec 32 := Scalar.subi v548 c1_i32_585
  let c16_i32_586 : BitVec 32 := 16#32
  let v550 : BitVec 32 := Scalar.addi v549 c16_i32_586
  let c8_i32_587 : BitVec 32 := 8#32
  let v551 : BitVec 32 := Scalar.remsi v550 c8_i32_587
  let c256_i32_596 : BitVec 32 := 256#32
  let v561 : BitVec 32 := Scalar.muli v551 c256_i32_596
  v561
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_588 : BitVec 32 := 2#32
  let v552 : BitVec 32 := Scalar.addi v2 c2_i32_588
  let c16_i32_589 : BitVec 32 := 16#32
  let v553 : BitVec 32 := Scalar.addi v552 c16_i32_589
  let c8_i32_590 : BitVec 32 := 8#32
  let v554 : BitVec 32 := Scalar.remsi v553 c8_i32_590
  let c256_i32_597 : BitVec 32 := 256#32
  let v563 : BitVec 32 := Scalar.muli v554 c256_i32_597
  v563
def k0_mult24 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_591 : BitVec 32 := 2#32
  let v555 : BitVec 32 := Scalar.addi v2 c2_i32_591
  let c1_i32_592 : BitVec 32 := 1#32
  let v556 : BitVec 32 := Scalar.addi v555 c1_i32_592
  let c16_i32_593 : BitVec 32 := 16#32
  let v557 : BitVec 32 := Scalar.addi v556 c16_i32_593
  let c8_i32_594 : BitVec 32 := 8#32
  let v558 : BitVec 32 := Scalar.remsi v557 c8_i32_594
  let c256_i32_598 : BitVec 32 := 256#32
  let v565 : BitVec 32 := Scalar.muli v558 c256_i32_598
  v565
def k0_dev13 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_603 : BitVec 32 := 1#32
  let v567 : BitVec 32 := Scalar.muli v7 c1_i32_603
  let v568 : BitVec 32 := Scalar.addi c0_i32_604 v567
  v568.toNat
def k0_dev14 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_607 : BitVec 32 := 1#32
  let v570 : BitVec 32 := Scalar.muli v5 c1_i32_607
  let v571 : BitVec 32 := Scalar.addi c0_i32_608 v570
  v571.toNat
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_584 : BitVec 32 := 2#32
  let v548 : BitVec 32 := Scalar.subi v2 c2_i32_584
  let c1_i32_585 : BitVec 32 := 1#32
  let v549 : BitVec 32 := Scalar.subi v548 c1_i32_585
  let c16_i32_586 : BitVec 32 := 16#32
  let v550 : BitVec 32 := Scalar.addi v549 c16_i32_586
  let c8_i32_587 : BitVec 32 := 8#32
  let v551 : BitVec 32 := Scalar.remsi v550 c8_i32_587
  let c256_i32_611 : BitVec 32 := 256#32
  let v573 : BitVec 32 := Scalar.muli v551 c256_i32_611
  v573
def k0_mult26 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_584 : BitVec 32 := 2#32
  let v548 : BitVec 32 := Scalar.subi v2 c2_i32_584
  let c1_i32_585 : BitVec 32 := 1#32
  let v549 : BitVec 32 := Scalar.subi v548 c1_i32_585
  let c16_i32_586 : BitVec 32 := 16#32
  let v550 : BitVec 32 := Scalar.addi v549 c16_i32_586
  let c8_i32_587 : BitVec 32 := 8#32
  let v551 : BitVec 32 := Scalar.remsi v550 c8_i32_587
  let c256_i32_611 : BitVec 32 := 256#32
  let v573 : BitVec 32 := Scalar.muli v551 c256_i32_611
  let v574 : BitVec 32 := v573
  let c8_i32_612 : BitVec 32 := 8#32
  let v575 : BitVec 32 := Scalar.subi v574 c8_i32_612
  let c0_i32_613 : BitVec 32 := 0#32
  let v576 : BitVec 32 := Scalar.maxsi v575 c0_i32_613
  v576
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_591 : BitVec 32 := 2#32
  let v555 : BitVec 32 := Scalar.addi v2 c2_i32_591
  let c1_i32_592 : BitVec 32 := 1#32
  let v556 : BitVec 32 := Scalar.addi v555 c1_i32_592
  let c16_i32_593 : BitVec 32 := 16#32
  let v557 : BitVec 32 := Scalar.addi v556 c16_i32_593
  let c8_i32_594 : BitVec 32 := 8#32
  let v558 : BitVec 32 := Scalar.remsi v557 c8_i32_594
  let c256_i32_679 : BitVec 32 := 256#32
  let v641 : BitVec 32 := Scalar.muli v558 c256_i32_679
  v641
def k0_mult28 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_591 : BitVec 32 := 2#32
  let v555 : BitVec 32 := Scalar.addi v2 c2_i32_591
  let c1_i32_592 : BitVec 32 := 1#32
  let v556 : BitVec 32 := Scalar.addi v555 c1_i32_592
  let c16_i32_593 : BitVec 32 := 16#32
  let v557 : BitVec 32 := Scalar.addi v556 c16_i32_593
  let c8_i32_594 : BitVec 32 := 8#32
  let v558 : BitVec 32 := Scalar.remsi v557 c8_i32_594
  let c256_i32_679 : BitVec 32 := 256#32
  let v641 : BitVec 32 := Scalar.muli v558 c256_i32_679
  let v642 : BitVec 32 := v641
  let c8_i32_680 : BitVec 32 := 8#32
  let v643 : BitVec 32 := Scalar.subi v642 c8_i32_680
  let c0_i32_681 : BitVec 32 := 0#32
  let v644 : BitVec 32 := Scalar.maxsi v643 c0_i32_681
  v644
def k0_dev15 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_796 : BitVec 32 := 1#32
  let v737 : BitVec 32 := Scalar.muli v5 c1_i32_796
  let v738 : BitVec 32 := Scalar.addi c0_i32_797 v737
  v738.toNat
def k0_dev16 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_799 : BitVec 32 := 1#32
  let v739 : BitVec 32 := Scalar.muli v7 c1_i32_799
  let v740 : BitVec 32 := Scalar.addi c0_i32_800 v739
  v740.toNat
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v741 : BitVec 32 := Scalar.subi v2 c3_i32
  let c16_i32_801 : BitVec 32 := 16#32
  let v742 : BitVec 32 := Scalar.addi v741 c16_i32_801
  let c8_i32_802 : BitVec 32 := 8#32
  let v743 : BitVec 32 := Scalar.remsi v742 c8_i32_802
  let c256_i32_814 : BitVec 32 := 256#32
  let v755 : BitVec 32 := Scalar.muli v743 c256_i32_814
  v755
def k0_mult30 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_803 : BitVec 32 := 3#32
  let v744 : BitVec 32 := Scalar.subi v2 c3_i32_803
  let c1_i32_804 : BitVec 32 := 1#32
  let v745 : BitVec 32 := Scalar.subi v744 c1_i32_804
  let c16_i32_805 : BitVec 32 := 16#32
  let v746 : BitVec 32 := Scalar.addi v745 c16_i32_805
  let c8_i32_806 : BitVec 32 := 8#32
  let v747 : BitVec 32 := Scalar.remsi v746 c8_i32_806
  let c256_i32_815 : BitVec 32 := 256#32
  let v757 : BitVec 32 := Scalar.muli v747 c256_i32_815
  v757
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_807 : BitVec 32 := 3#32
  let v748 : BitVec 32 := Scalar.addi v2 c3_i32_807
  let c16_i32_808 : BitVec 32 := 16#32
  let v749 : BitVec 32 := Scalar.addi v748 c16_i32_808
  let c8_i32_809 : BitVec 32 := 8#32
  let v750 : BitVec 32 := Scalar.remsi v749 c8_i32_809
  let c256_i32_816 : BitVec 32 := 256#32
  let v759 : BitVec 32 := Scalar.muli v750 c256_i32_816
  v759
def k0_mult32 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_810 : BitVec 32 := 3#32
  let v751 : BitVec 32 := Scalar.addi v2 c3_i32_810
  let c1_i32_811 : BitVec 32 := 1#32
  let v752 : BitVec 32 := Scalar.addi v751 c1_i32_811
  let c16_i32_812 : BitVec 32 := 16#32
  let v753 : BitVec 32 := Scalar.addi v752 c16_i32_812
  let c8_i32_813 : BitVec 32 := 8#32
  let v754 : BitVec 32 := Scalar.remsi v753 c8_i32_813
  let c256_i32_817 : BitVec 32 := 256#32
  let v761 : BitVec 32 := Scalar.muli v754 c256_i32_817
  v761
def k0_dev17 (d0 : Dev nD) : Nat :=
  let c0_i32_823 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_822 : BitVec 32 := 1#32
  let v763 : BitVec 32 := Scalar.muli v7 c1_i32_822
  let v764 : BitVec 32 := Scalar.addi c0_i32_823 v763
  v764.toNat
def k0_dev18 (d0 : Dev nD) : Nat :=
  let c0_i32_827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_826 : BitVec 32 := 1#32
  let v766 : BitVec 32 := Scalar.muli v5 c1_i32_826
  let v767 : BitVec 32 := Scalar.addi c0_i32_827 v766
  v767.toNat
def k0_mult33 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_803 : BitVec 32 := 3#32
  let v744 : BitVec 32 := Scalar.subi v2 c3_i32_803
  let c1_i32_804 : BitVec 32 := 1#32
  let v745 : BitVec 32 := Scalar.subi v744 c1_i32_804
  let c16_i32_805 : BitVec 32 := 16#32
  let v746 : BitVec 32 := Scalar.addi v745 c16_i32_805
  let c8_i32_806 : BitVec 32 := 8#32
  let v747 : BitVec 32 := Scalar.remsi v746 c8_i32_806
  let c256_i32_830 : BitVec 32 := 256#32
  let v769 : BitVec 32 := Scalar.muli v747 c256_i32_830
  v769
def k0_mult34 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_803 : BitVec 32 := 3#32
  let v744 : BitVec 32 := Scalar.subi v2 c3_i32_803
  let c1_i32_804 : BitVec 32 := 1#32
  let v745 : BitVec 32 := Scalar.subi v744 c1_i32_804
  let c16_i32_805 : BitVec 32 := 16#32
  let v746 : BitVec 32 := Scalar.addi v745 c16_i32_805
  let c8_i32_806 : BitVec 32 := 8#32
  let v747 : BitVec 32 := Scalar.remsi v746 c8_i32_806
  let c256_i32_830 : BitVec 32 := 256#32
  let v769 : BitVec 32 := Scalar.muli v747 c256_i32_830
  let v770 : BitVec 32 := v769
  let c8_i32_831 : BitVec 32 := 8#32
  let v771 : BitVec 32 := Scalar.subi v770 c8_i32_831
  let c0_i32_832 : BitVec 32 := 0#32
  let v772 : BitVec 32 := Scalar.maxsi v771 c0_i32_832
  v772
def k0_mult35 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_810 : BitVec 32 := 3#32
  let v751 : BitVec 32 := Scalar.addi v2 c3_i32_810
  let c1_i32_811 : BitVec 32 := 1#32
  let v752 : BitVec 32 := Scalar.addi v751 c1_i32_811
  let c16_i32_812 : BitVec 32 := 16#32
  let v753 : BitVec 32 := Scalar.addi v752 c16_i32_812
  let c8_i32_813 : BitVec 32 := 8#32
  let v754 : BitVec 32 := Scalar.remsi v753 c8_i32_813
  let c256_i32_898 : BitVec 32 := 256#32
  let v837 : BitVec 32 := Scalar.muli v754 c256_i32_898
  v837
def k0_mult36 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_810 : BitVec 32 := 3#32
  let v751 : BitVec 32 := Scalar.addi v2 c3_i32_810
  let c1_i32_811 : BitVec 32 := 1#32
  let v752 : BitVec 32 := Scalar.addi v751 c1_i32_811
  let c16_i32_812 : BitVec 32 := 16#32
  let v753 : BitVec 32 := Scalar.addi v752 c16_i32_812
  let c8_i32_813 : BitVec 32 := 8#32
  let v754 : BitVec 32 := Scalar.remsi v753 c8_i32_813
  let c256_i32_898 : BitVec 32 := 256#32
  let v837 : BitVec 32 := Scalar.muli v754 c256_i32_898
  let v838 : BitVec 32 := v837
  let c8_i32_899 : BitVec 32 := 8#32
  let v839 : BitVec 32 := Scalar.subi v838 c8_i32_899
  let c0_i32_900 : BitVec 32 := 0#32
  let v840 : BitVec 32 := Scalar.maxsi v839 c0_i32_900
  v840
def k0_dev19 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1015 : BitVec 32 := 1#32
  let v933 : BitVec 32 := Scalar.muli v5 c1_i32_1015
  let v934 : BitVec 32 := Scalar.addi c0_i32_1016 v933
  v934.toNat
def k0_dev20 (d0 : Dev nD) : Nat :=
  let c0_i32_1019 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1018 : BitVec 32 := 1#32
  let v935 : BitVec 32 := Scalar.muli v7 c1_i32_1018
  let v936 : BitVec 32 := Scalar.addi c0_i32_1019 v935
  v936.toNat
def k0_mult37 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v937 : BitVec 32 := Scalar.subi v2 c4_i32
  let c16_i32_1020 : BitVec 32 := 16#32
  let v938 : BitVec 32 := Scalar.addi v937 c16_i32_1020
  let c8_i32_1021 : BitVec 32 := 8#32
  let v939 : BitVec 32 := Scalar.remsi v938 c8_i32_1021
  let c256_i32_1033 : BitVec 32 := 256#32
  let v951 : BitVec 32 := Scalar.muli v939 c256_i32_1033
  v951
def k0_mult38 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1022 : BitVec 32 := 4#32
  let v940 : BitVec 32 := Scalar.subi v2 c4_i32_1022
  let c1_i32_1023 : BitVec 32 := 1#32
  let v941 : BitVec 32 := Scalar.subi v940 c1_i32_1023
  let c16_i32_1024 : BitVec 32 := 16#32
  let v942 : BitVec 32 := Scalar.addi v941 c16_i32_1024
  let c8_i32_1025 : BitVec 32 := 8#32
  let v943 : BitVec 32 := Scalar.remsi v942 c8_i32_1025
  let c256_i32_1034 : BitVec 32 := 256#32
  let v953 : BitVec 32 := Scalar.muli v943 c256_i32_1034
  v953
def k0_mult39 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1026 : BitVec 32 := 4#32
  let v944 : BitVec 32 := Scalar.addi v2 c4_i32_1026
  let c16_i32_1027 : BitVec 32 := 16#32
  let v945 : BitVec 32 := Scalar.addi v944 c16_i32_1027
  let c8_i32_1028 : BitVec 32 := 8#32
  let v946 : BitVec 32 := Scalar.remsi v945 c8_i32_1028
  let c256_i32_1035 : BitVec 32 := 256#32
  let v955 : BitVec 32 := Scalar.muli v946 c256_i32_1035
  v955
def k0_mult40 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1029 : BitVec 32 := 4#32
  let v947 : BitVec 32 := Scalar.addi v2 c4_i32_1029
  let c1_i32_1030 : BitVec 32 := 1#32
  let v948 : BitVec 32 := Scalar.addi v947 c1_i32_1030
  let c16_i32_1031 : BitVec 32 := 16#32
  let v949 : BitVec 32 := Scalar.addi v948 c16_i32_1031
  let c8_i32_1032 : BitVec 32 := 8#32
  let v950 : BitVec 32 := Scalar.remsi v949 c8_i32_1032
  let c256_i32_1036 : BitVec 32 := 256#32
  let v957 : BitVec 32 := Scalar.muli v950 c256_i32_1036
  v957
def k0_dev21 (d0 : Dev nD) : Nat :=
  let c0_i32_1042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1041 : BitVec 32 := 1#32
  let v959 : BitVec 32 := Scalar.muli v7 c1_i32_1041
  let v960 : BitVec 32 := Scalar.addi c0_i32_1042 v959
  v960.toNat
def k0_dev22 (d0 : Dev nD) : Nat :=
  let c0_i32_1046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1045 : BitVec 32 := 1#32
  let v962 : BitVec 32 := Scalar.muli v5 c1_i32_1045
  let v963 : BitVec 32 := Scalar.addi c0_i32_1046 v962
  v963.toNat
def k0_mult41 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1022 : BitVec 32 := 4#32
  let v940 : BitVec 32 := Scalar.subi v2 c4_i32_1022
  let c1_i32_1023 : BitVec 32 := 1#32
  let v941 : BitVec 32 := Scalar.subi v940 c1_i32_1023
  let c16_i32_1024 : BitVec 32 := 16#32
  let v942 : BitVec 32 := Scalar.addi v941 c16_i32_1024
  let c8_i32_1025 : BitVec 32 := 8#32
  let v943 : BitVec 32 := Scalar.remsi v942 c8_i32_1025
  let c256_i32_1049 : BitVec 32 := 256#32
  let v965 : BitVec 32 := Scalar.muli v943 c256_i32_1049
  v965
def k0_mult42 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1022 : BitVec 32 := 4#32
  let v940 : BitVec 32 := Scalar.subi v2 c4_i32_1022
  let c1_i32_1023 : BitVec 32 := 1#32
  let v941 : BitVec 32 := Scalar.subi v940 c1_i32_1023
  let c16_i32_1024 : BitVec 32 := 16#32
  let v942 : BitVec 32 := Scalar.addi v941 c16_i32_1024
  let c8_i32_1025 : BitVec 32 := 8#32
  let v943 : BitVec 32 := Scalar.remsi v942 c8_i32_1025
  let c256_i32_1049 : BitVec 32 := 256#32
  let v965 : BitVec 32 := Scalar.muli v943 c256_i32_1049
  let v966 : BitVec 32 := v965
  let c8_i32_1050 : BitVec 32 := 8#32
  let v967 : BitVec 32 := Scalar.subi v966 c8_i32_1050
  let c0_i32_1051 : BitVec 32 := 0#32
  let v968 : BitVec 32 := Scalar.maxsi v967 c0_i32_1051
  v968
def k0_mult43 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1029 : BitVec 32 := 4#32
  let v947 : BitVec 32 := Scalar.addi v2 c4_i32_1029
  let c1_i32_1030 : BitVec 32 := 1#32
  let v948 : BitVec 32 := Scalar.addi v947 c1_i32_1030
  let c16_i32_1031 : BitVec 32 := 16#32
  let v949 : BitVec 32 := Scalar.addi v948 c16_i32_1031
  let c8_i32_1032 : BitVec 32 := 8#32
  let v950 : BitVec 32 := Scalar.remsi v949 c8_i32_1032
  let c256_i32_1117 : BitVec 32 := 256#32
  let v1033 : BitVec 32 := Scalar.muli v950 c256_i32_1117
  v1033
def k0_mult44 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1029 : BitVec 32 := 4#32
  let v947 : BitVec 32 := Scalar.addi v2 c4_i32_1029
  let c1_i32_1030 : BitVec 32 := 1#32
  let v948 : BitVec 32 := Scalar.addi v947 c1_i32_1030
  let c16_i32_1031 : BitVec 32 := 16#32
  let v949 : BitVec 32 := Scalar.addi v948 c16_i32_1031
  let c8_i32_1032 : BitVec 32 := 8#32
  let v950 : BitVec 32 := Scalar.remsi v949 c8_i32_1032
  let c256_i32_1117 : BitVec 32 := 256#32
  let v1033 : BitVec 32 := Scalar.muli v950 c256_i32_1117
  let v1034 : BitVec 32 := v1033
  let c8_i32_1118 : BitVec 32 := 8#32
  let v1035 : BitVec 32 := Scalar.subi v1034 c8_i32_1118
  let c0_i32_1119 : BitVec 32 := 0#32
  let v1036 : BitVec 32 := Scalar.maxsi v1035 c0_i32_1119
  v1036
def k0_dev23 (d0 : Dev nD) : Nat :=
  let c0_i32_1235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1234 : BitVec 32 := 1#32
  let v1129 : BitVec 32 := Scalar.muli v5 c1_i32_1234
  let v1130 : BitVec 32 := Scalar.addi c0_i32_1235 v1129
  v1130.toNat
def k0_dev24 (d0 : Dev nD) : Nat :=
  let c0_i32_1238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1237 : BitVec 32 := 1#32
  let v1131 : BitVec 32 := Scalar.muli v7 c1_i32_1237
  let v1132 : BitVec 32 := Scalar.addi c0_i32_1238 v1131
  v1132.toNat
def k0_mult45 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v1133 : BitVec 32 := Scalar.subi v2 c5_i32
  let c16_i32_1239 : BitVec 32 := 16#32
  let v1134 : BitVec 32 := Scalar.addi v1133 c16_i32_1239
  let c8_i32_1240 : BitVec 32 := 8#32
  let v1135 : BitVec 32 := Scalar.remsi v1134 c8_i32_1240
  let c256_i32_1252 : BitVec 32 := 256#32
  let v1147 : BitVec 32 := Scalar.muli v1135 c256_i32_1252
  v1147
def k0_mult46 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1241 : BitVec 32 := 5#32
  let v1136 : BitVec 32 := Scalar.subi v2 c5_i32_1241
  let c1_i32_1242 : BitVec 32 := 1#32
  let v1137 : BitVec 32 := Scalar.subi v1136 c1_i32_1242
  let c16_i32_1243 : BitVec 32 := 16#32
  let v1138 : BitVec 32 := Scalar.addi v1137 c16_i32_1243
  let c8_i32_1244 : BitVec 32 := 8#32
  let v1139 : BitVec 32 := Scalar.remsi v1138 c8_i32_1244
  let c256_i32_1253 : BitVec 32 := 256#32
  let v1149 : BitVec 32 := Scalar.muli v1139 c256_i32_1253
  v1149
def k0_mult47 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1245 : BitVec 32 := 5#32
  let v1140 : BitVec 32 := Scalar.addi v2 c5_i32_1245
  let c16_i32_1246 : BitVec 32 := 16#32
  let v1141 : BitVec 32 := Scalar.addi v1140 c16_i32_1246
  let c8_i32_1247 : BitVec 32 := 8#32
  let v1142 : BitVec 32 := Scalar.remsi v1141 c8_i32_1247
  let c256_i32_1254 : BitVec 32 := 256#32
  let v1151 : BitVec 32 := Scalar.muli v1142 c256_i32_1254
  v1151
def k0_mult48 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1248 : BitVec 32 := 5#32
  let v1143 : BitVec 32 := Scalar.addi v2 c5_i32_1248
  let c1_i32_1249 : BitVec 32 := 1#32
  let v1144 : BitVec 32 := Scalar.addi v1143 c1_i32_1249
  let c16_i32_1250 : BitVec 32 := 16#32
  let v1145 : BitVec 32 := Scalar.addi v1144 c16_i32_1250
  let c8_i32_1251 : BitVec 32 := 8#32
  let v1146 : BitVec 32 := Scalar.remsi v1145 c8_i32_1251
  let c256_i32_1255 : BitVec 32 := 256#32
  let v1153 : BitVec 32 := Scalar.muli v1146 c256_i32_1255
  v1153
def k0_dev25 (d0 : Dev nD) : Nat :=
  let c0_i32_1261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1260 : BitVec 32 := 1#32
  let v1155 : BitVec 32 := Scalar.muli v7 c1_i32_1260
  let v1156 : BitVec 32 := Scalar.addi c0_i32_1261 v1155
  v1156.toNat
def k0_dev26 (d0 : Dev nD) : Nat :=
  let c0_i32_1265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1264 : BitVec 32 := 1#32
  let v1158 : BitVec 32 := Scalar.muli v5 c1_i32_1264
  let v1159 : BitVec 32 := Scalar.addi c0_i32_1265 v1158
  v1159.toNat
def k0_mult49 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1241 : BitVec 32 := 5#32
  let v1136 : BitVec 32 := Scalar.subi v2 c5_i32_1241
  let c1_i32_1242 : BitVec 32 := 1#32
  let v1137 : BitVec 32 := Scalar.subi v1136 c1_i32_1242
  let c16_i32_1243 : BitVec 32 := 16#32
  let v1138 : BitVec 32 := Scalar.addi v1137 c16_i32_1243
  let c8_i32_1244 : BitVec 32 := 8#32
  let v1139 : BitVec 32 := Scalar.remsi v1138 c8_i32_1244
  let c256_i32_1268 : BitVec 32 := 256#32
  let v1161 : BitVec 32 := Scalar.muli v1139 c256_i32_1268
  v1161
def k0_mult50 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1241 : BitVec 32 := 5#32
  let v1136 : BitVec 32 := Scalar.subi v2 c5_i32_1241
  let c1_i32_1242 : BitVec 32 := 1#32
  let v1137 : BitVec 32 := Scalar.subi v1136 c1_i32_1242
  let c16_i32_1243 : BitVec 32 := 16#32
  let v1138 : BitVec 32 := Scalar.addi v1137 c16_i32_1243
  let c8_i32_1244 : BitVec 32 := 8#32
  let v1139 : BitVec 32 := Scalar.remsi v1138 c8_i32_1244
  let c256_i32_1268 : BitVec 32 := 256#32
  let v1161 : BitVec 32 := Scalar.muli v1139 c256_i32_1268
  let v1162 : BitVec 32 := v1161
  let c8_i32_1269 : BitVec 32 := 8#32
  let v1163 : BitVec 32 := Scalar.subi v1162 c8_i32_1269
  let c0_i32_1270 : BitVec 32 := 0#32
  let v1164 : BitVec 32 := Scalar.maxsi v1163 c0_i32_1270
  v1164
def k0_mult51 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1248 : BitVec 32 := 5#32
  let v1143 : BitVec 32 := Scalar.addi v2 c5_i32_1248
  let c1_i32_1249 : BitVec 32 := 1#32
  let v1144 : BitVec 32 := Scalar.addi v1143 c1_i32_1249
  let c16_i32_1250 : BitVec 32 := 16#32
  let v1145 : BitVec 32 := Scalar.addi v1144 c16_i32_1250
  let c8_i32_1251 : BitVec 32 := 8#32
  let v1146 : BitVec 32 := Scalar.remsi v1145 c8_i32_1251
  let c256_i32_1336 : BitVec 32 := 256#32
  let v1229 : BitVec 32 := Scalar.muli v1146 c256_i32_1336
  v1229
def k0_mult52 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1248 : BitVec 32 := 5#32
  let v1143 : BitVec 32 := Scalar.addi v2 c5_i32_1248
  let c1_i32_1249 : BitVec 32 := 1#32
  let v1144 : BitVec 32 := Scalar.addi v1143 c1_i32_1249
  let c16_i32_1250 : BitVec 32 := 16#32
  let v1145 : BitVec 32 := Scalar.addi v1144 c16_i32_1250
  let c8_i32_1251 : BitVec 32 := 8#32
  let v1146 : BitVec 32 := Scalar.remsi v1145 c8_i32_1251
  let c256_i32_1336 : BitVec 32 := 256#32
  let v1229 : BitVec 32 := Scalar.muli v1146 c256_i32_1336
  let v1230 : BitVec 32 := v1229
  let c8_i32_1337 : BitVec 32 := 8#32
  let v1231 : BitVec 32 := Scalar.subi v1230 c8_i32_1337
  let c0_i32_1338 : BitVec 32 := 0#32
  let v1232 : BitVec 32 := Scalar.maxsi v1231 c0_i32_1338
  v1232
def k0_dev27 (d0 : Dev nD) : Nat :=
  let c0_i32_1454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1453 : BitVec 32 := 1#32
  let v1325 : BitVec 32 := Scalar.muli v5 c1_i32_1453
  let v1326 : BitVec 32 := Scalar.addi c0_i32_1454 v1325
  v1326.toNat
def k0_dev28 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1456 : BitVec 32 := 1#32
  let v1327 : BitVec 32 := Scalar.muli v7 c1_i32_1456
  let v1328 : BitVec 32 := Scalar.addi c0_i32_1457 v1327
  v1328.toNat
def k0_mult53 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v1329 : BitVec 32 := Scalar.subi v2 c6_i32
  let c16_i32_1458 : BitVec 32 := 16#32
  let v1330 : BitVec 32 := Scalar.addi v1329 c16_i32_1458
  let c8_i32_1459 : BitVec 32 := 8#32
  let v1331 : BitVec 32 := Scalar.remsi v1330 c8_i32_1459
  let c256_i32_1471 : BitVec 32 := 256#32
  let v1343 : BitVec 32 := Scalar.muli v1331 c256_i32_1471
  v1343
def k0_mult54 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1460 : BitVec 32 := 6#32
  let v1332 : BitVec 32 := Scalar.subi v2 c6_i32_1460
  let c1_i32_1461 : BitVec 32 := 1#32
  let v1333 : BitVec 32 := Scalar.subi v1332 c1_i32_1461
  let c16_i32_1462 : BitVec 32 := 16#32
  let v1334 : BitVec 32 := Scalar.addi v1333 c16_i32_1462
  let c8_i32_1463 : BitVec 32 := 8#32
  let v1335 : BitVec 32 := Scalar.remsi v1334 c8_i32_1463
  let c256_i32_1472 : BitVec 32 := 256#32
  let v1345 : BitVec 32 := Scalar.muli v1335 c256_i32_1472
  v1345
def k0_mult55 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1464 : BitVec 32 := 6#32
  let v1336 : BitVec 32 := Scalar.addi v2 c6_i32_1464
  let c16_i32_1465 : BitVec 32 := 16#32
  let v1337 : BitVec 32 := Scalar.addi v1336 c16_i32_1465
  let c8_i32_1466 : BitVec 32 := 8#32
  let v1338 : BitVec 32 := Scalar.remsi v1337 c8_i32_1466
  let c256_i32_1473 : BitVec 32 := 256#32
  let v1347 : BitVec 32 := Scalar.muli v1338 c256_i32_1473
  v1347
def k0_mult56 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1467 : BitVec 32 := 6#32
  let v1339 : BitVec 32 := Scalar.addi v2 c6_i32_1467
  let c1_i32_1468 : BitVec 32 := 1#32
  let v1340 : BitVec 32 := Scalar.addi v1339 c1_i32_1468
  let c16_i32_1469 : BitVec 32 := 16#32
  let v1341 : BitVec 32 := Scalar.addi v1340 c16_i32_1469
  let c8_i32_1470 : BitVec 32 := 8#32
  let v1342 : BitVec 32 := Scalar.remsi v1341 c8_i32_1470
  let c256_i32_1474 : BitVec 32 := 256#32
  let v1349 : BitVec 32 := Scalar.muli v1342 c256_i32_1474
  v1349
def k0_dev29 (d0 : Dev nD) : Nat :=
  let c0_i32_1480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1479 : BitVec 32 := 1#32
  let v1351 : BitVec 32 := Scalar.muli v7 c1_i32_1479
  let v1352 : BitVec 32 := Scalar.addi c0_i32_1480 v1351
  v1352.toNat
def k0_dev30 (d0 : Dev nD) : Nat :=
  let c0_i32_1484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1483 : BitVec 32 := 1#32
  let v1354 : BitVec 32 := Scalar.muli v5 c1_i32_1483
  let v1355 : BitVec 32 := Scalar.addi c0_i32_1484 v1354
  v1355.toNat
def k0_mult57 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1460 : BitVec 32 := 6#32
  let v1332 : BitVec 32 := Scalar.subi v2 c6_i32_1460
  let c1_i32_1461 : BitVec 32 := 1#32
  let v1333 : BitVec 32 := Scalar.subi v1332 c1_i32_1461
  let c16_i32_1462 : BitVec 32 := 16#32
  let v1334 : BitVec 32 := Scalar.addi v1333 c16_i32_1462
  let c8_i32_1463 : BitVec 32 := 8#32
  let v1335 : BitVec 32 := Scalar.remsi v1334 c8_i32_1463
  let c256_i32_1487 : BitVec 32 := 256#32
  let v1357 : BitVec 32 := Scalar.muli v1335 c256_i32_1487
  v1357
def k0_mult58 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1460 : BitVec 32 := 6#32
  let v1332 : BitVec 32 := Scalar.subi v2 c6_i32_1460
  let c1_i32_1461 : BitVec 32 := 1#32
  let v1333 : BitVec 32 := Scalar.subi v1332 c1_i32_1461
  let c16_i32_1462 : BitVec 32 := 16#32
  let v1334 : BitVec 32 := Scalar.addi v1333 c16_i32_1462
  let c8_i32_1463 : BitVec 32 := 8#32
  let v1335 : BitVec 32 := Scalar.remsi v1334 c8_i32_1463
  let c256_i32_1487 : BitVec 32 := 256#32
  let v1357 : BitVec 32 := Scalar.muli v1335 c256_i32_1487
  let v1358 : BitVec 32 := v1357
  let c8_i32_1488 : BitVec 32 := 8#32
  let v1359 : BitVec 32 := Scalar.subi v1358 c8_i32_1488
  let c0_i32_1489 : BitVec 32 := 0#32
  let v1360 : BitVec 32 := Scalar.maxsi v1359 c0_i32_1489
  v1360
def k0_mult59 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1467 : BitVec 32 := 6#32
  let v1339 : BitVec 32 := Scalar.addi v2 c6_i32_1467
  let c1_i32_1468 : BitVec 32 := 1#32
  let v1340 : BitVec 32 := Scalar.addi v1339 c1_i32_1468
  let c16_i32_1469 : BitVec 32 := 16#32
  let v1341 : BitVec 32 := Scalar.addi v1340 c16_i32_1469
  let c8_i32_1470 : BitVec 32 := 8#32
  let v1342 : BitVec 32 := Scalar.remsi v1341 c8_i32_1470
  let c256_i32_1555 : BitVec 32 := 256#32
  let v1425 : BitVec 32 := Scalar.muli v1342 c256_i32_1555
  v1425
def k0_mult60 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1467 : BitVec 32 := 6#32
  let v1339 : BitVec 32 := Scalar.addi v2 c6_i32_1467
  let c1_i32_1468 : BitVec 32 := 1#32
  let v1340 : BitVec 32 := Scalar.addi v1339 c1_i32_1468
  let c16_i32_1469 : BitVec 32 := 16#32
  let v1341 : BitVec 32 := Scalar.addi v1340 c16_i32_1469
  let c8_i32_1470 : BitVec 32 := 8#32
  let v1342 : BitVec 32 := Scalar.remsi v1341 c8_i32_1470
  let c256_i32_1555 : BitVec 32 := 256#32
  let v1425 : BitVec 32 := Scalar.muli v1342 c256_i32_1555
  let v1426 : BitVec 32 := v1425
  let c8_i32_1556 : BitVec 32 := 8#32
  let v1427 : BitVec 32 := Scalar.subi v1426 c8_i32_1556
  let c0_i32_1557 : BitVec 32 := 0#32
  let v1428 : BitVec 32 := Scalar.maxsi v1427 c0_i32_1557
  v1428
def k0_dev31 (d0 : Dev nD) : Nat :=
  let c0_i32_1673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1672 : BitVec 32 := 1#32
  let v1521 : BitVec 32 := Scalar.muli v5 c1_i32_1672
  let v1522 : BitVec 32 := Scalar.addi c0_i32_1673 v1521
  v1522.toNat
def k0_dev32 (d0 : Dev nD) : Nat :=
  let c0_i32_1676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1675 : BitVec 32 := 1#32
  let v1523 : BitVec 32 := Scalar.muli v7 c1_i32_1675
  let v1524 : BitVec 32 := Scalar.addi c0_i32_1676 v1523
  v1524.toNat
def k0_mult61 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1677 : BitVec 32 := 1#32
  let v1525 : BitVec 32 := Scalar.addi v2 c1_i32_1677
  let c0_i32_1678 : BitVec 32 := 0#32
  let v1526 : BitVec 32 := Scalar.subi v1525 c0_i32_1678
  let c16_i32_1679 : BitVec 32 := 16#32
  let v1527 : BitVec 32 := Scalar.addi v1526 c16_i32_1679
  let c8_i32_1680 : BitVec 32 := 8#32
  let v1528 : BitVec 32 := Scalar.remsi v1527 c8_i32_1680
  let c256_i32_1691 : BitVec 32 := 256#32
  let v1539 : BitVec 32 := Scalar.muli v1528 c256_i32_1691
  v1539
def k0_mult62 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1681 : BitVec 32 := 0#32
  let v1529 : BitVec 32 := Scalar.subi v2 c0_i32_1681
  let c16_i32_1682 : BitVec 32 := 16#32
  let v1530 : BitVec 32 := Scalar.addi v1529 c16_i32_1682
  let c8_i32_1683 : BitVec 32 := 8#32
  let v1531 : BitVec 32 := Scalar.remsi v1530 c8_i32_1683
  let c256_i32_1692 : BitVec 32 := 256#32
  let v1541 : BitVec 32 := Scalar.muli v1531 c256_i32_1692
  v1541
def k0_mult63 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1684 : BitVec 32 := 1#32
  let v1532 : BitVec 32 := Scalar.subi v2 c1_i32_1684
  let c0_i32_1685 : BitVec 32 := 0#32
  let v1533 : BitVec 32 := Scalar.addi v1532 c0_i32_1685
  let c16_i32_1686 : BitVec 32 := 16#32
  let v1534 : BitVec 32 := Scalar.addi v1533 c16_i32_1686
  let c8_i32_1687 : BitVec 32 := 8#32
  let v1535 : BitVec 32 := Scalar.remsi v1534 c8_i32_1687
  let c256_i32_1693 : BitVec 32 := 256#32
  let v1543 : BitVec 32 := Scalar.muli v1535 c256_i32_1693
  v1543
def k0_mult64 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1688 : BitVec 32 := 0#32
  let v1536 : BitVec 32 := Scalar.addi v2 c0_i32_1688
  let c16_i32_1689 : BitVec 32 := 16#32
  let v1537 : BitVec 32 := Scalar.addi v1536 c16_i32_1689
  let c8_i32_1690 : BitVec 32 := 8#32
  let v1538 : BitVec 32 := Scalar.remsi v1537 c8_i32_1690
  let c256_i32_1694 : BitVec 32 := 256#32
  let v1545 : BitVec 32 := Scalar.muli v1538 c256_i32_1694
  v1545
def k0_off11 (d0 : Dev nD) (c0_i32_1678 : BitVec 32) : Fin 3 → Nat :=
  let c0_i32_1701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1677 : BitVec 32 := 1#32
  let v1525 : BitVec 32 := Scalar.addi v2 c1_i32_1677
  let v1526 : BitVec 32 := Scalar.subi v1525 c0_i32_1678
  let c16_i32_1679 : BitVec 32 := 16#32
  let v1527 : BitVec 32 := Scalar.addi v1526 c16_i32_1679
  let c8_i32_1680 : BitVec 32 := 8#32
  let v1528 : BitVec 32 := Scalar.remsi v1527 c8_i32_1680
  let c256_i32_1691 : BitVec 32 := 256#32
  let v1539 : BitVec 32 := Scalar.muli v1528 c256_i32_1691
  let v1540 : BitVec 32 := v1539
  let c0_i32_1702 : BitVec 32 := 0#32
  ![0, v1540.toNat, 0]
def k0_dev33 (d0 : Dev nD) : Nat :=
  let c0_i32_1700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1699 : BitVec 32 := 1#32
  let v1547 : BitVec 32 := Scalar.muli v7 c1_i32_1699
  let v1548 : BitVec 32 := Scalar.addi c0_i32_1700 v1547
  v1548.toNat
def k0_off12 (d0 : Dev nD) (c0_i32_1685 : BitVec 32) : Fin 3 → Nat :=
  let c2_i32_1705 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1684 : BitVec 32 := 1#32
  let v1532 : BitVec 32 := Scalar.subi v2 c1_i32_1684
  let v1533 : BitVec 32 := Scalar.addi v1532 c0_i32_1685
  let c16_i32_1686 : BitVec 32 := 16#32
  let v1534 : BitVec 32 := Scalar.addi v1533 c16_i32_1686
  let c8_i32_1687 : BitVec 32 := 8#32
  let v1535 : BitVec 32 := Scalar.remsi v1534 c8_i32_1687
  let c256_i32_1693 : BitVec 32 := 256#32
  let v1543 : BitVec 32 := Scalar.muli v1535 c256_i32_1693
  let v1544 : BitVec 32 := v1543
  let c0_i32_1706 : BitVec 32 := 0#32
  ![2, v1544.toNat, 0]
def k0_dev34 (d0 : Dev nD) : Nat :=
  let c0_i32_1704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1703 : BitVec 32 := 1#32
  let v1550 : BitVec 32 := Scalar.muli v5 c1_i32_1703
  let v1551 : BitVec 32 := Scalar.addi c0_i32_1704 v1550
  v1551.toNat
def k0_dev35 (d0 : Dev nD) : Nat :=
  let c0_i32_1731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1730 : BitVec 32 := 1#32
  let v1565 : BitVec 32 := Scalar.muli v5 c1_i32_1730
  let v1566 : BitVec 32 := Scalar.addi c0_i32_1731 v1565
  v1566.toNat
def k0_dev36 (d0 : Dev nD) : Nat :=
  let c0_i32_1734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1733 : BitVec 32 := 1#32
  let v1567 : BitVec 32 := Scalar.muli v7 c1_i32_1733
  let v1568 : BitVec 32 := Scalar.addi c0_i32_1734 v1567
  v1568.toNat
def k0_mult65 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1735 : BitVec 32 := 1#32
  let v1569 : BitVec 32 := Scalar.addi v2 c1_i32_1735
  let c1_i32_1736 : BitVec 32 := 1#32
  let v1570 : BitVec 32 := Scalar.subi v1569 c1_i32_1736
  let c16_i32_1737 : BitVec 32 := 16#32
  let v1571 : BitVec 32 := Scalar.addi v1570 c16_i32_1737
  let c8_i32_1738 : BitVec 32 := 8#32
  let v1572 : BitVec 32 := Scalar.remsi v1571 c8_i32_1738
  let c256_i32_1749 : BitVec 32 := 256#32
  let v1583 : BitVec 32 := Scalar.muli v1572 c256_i32_1749
  v1583
def k0_mult66 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1739 : BitVec 32 := 1#32
  let v1573 : BitVec 32 := Scalar.subi v2 c1_i32_1739
  let c16_i32_1740 : BitVec 32 := 16#32
  let v1574 : BitVec 32 := Scalar.addi v1573 c16_i32_1740
  let c8_i32_1741 : BitVec 32 := 8#32
  let v1575 : BitVec 32 := Scalar.remsi v1574 c8_i32_1741
  let c256_i32_1750 : BitVec 32 := 256#32
  let v1585 : BitVec 32 := Scalar.muli v1575 c256_i32_1750
  v1585
def k0_mult67 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1742 : BitVec 32 := 1#32
  let v1576 : BitVec 32 := Scalar.subi v2 c1_i32_1742
  let c1_i32_1743 : BitVec 32 := 1#32
  let v1577 : BitVec 32 := Scalar.addi v1576 c1_i32_1743
  let c16_i32_1744 : BitVec 32 := 16#32
  let v1578 : BitVec 32 := Scalar.addi v1577 c16_i32_1744
  let c8_i32_1745 : BitVec 32 := 8#32
  let v1579 : BitVec 32 := Scalar.remsi v1578 c8_i32_1745
  let c256_i32_1751 : BitVec 32 := 256#32
  let v1587 : BitVec 32 := Scalar.muli v1579 c256_i32_1751
  v1587
def k0_mult68 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1746 : BitVec 32 := 1#32
  let v1580 : BitVec 32 := Scalar.addi v2 c1_i32_1746
  let c16_i32_1747 : BitVec 32 := 16#32
  let v1581 : BitVec 32 := Scalar.addi v1580 c16_i32_1747
  let c8_i32_1748 : BitVec 32 := 8#32
  let v1582 : BitVec 32 := Scalar.remsi v1581 c8_i32_1748
  let c256_i32_1752 : BitVec 32 := 256#32
  let v1589 : BitVec 32 := Scalar.muli v1582 c256_i32_1752
  v1589
def k0_dev37 (d0 : Dev nD) : Nat :=
  let c0_i32_1758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1757 : BitVec 32 := 1#32
  let v1591 : BitVec 32 := Scalar.muli v7 c1_i32_1757
  let v1592 : BitVec 32 := Scalar.addi c0_i32_1758 v1591
  v1592.toNat
def k0_dev38 (d0 : Dev nD) : Nat :=
  let c0_i32_1762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1761 : BitVec 32 := 1#32
  let v1594 : BitVec 32 := Scalar.muli v5 c1_i32_1761
  let v1595 : BitVec 32 := Scalar.addi c0_i32_1762 v1594
  v1595.toNat
def k0_dev39 (d0 : Dev nD) : Nat :=
  let c0_i32_1789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1788 : BitVec 32 := 1#32
  let v1609 : BitVec 32 := Scalar.muli v5 c1_i32_1788
  let v1610 : BitVec 32 := Scalar.addi c0_i32_1789 v1609
  v1610.toNat
def k0_dev40 (d0 : Dev nD) : Nat :=
  let c0_i32_1792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1791 : BitVec 32 := 1#32
  let v1611 : BitVec 32 := Scalar.muli v7 c1_i32_1791
  let v1612 : BitVec 32 := Scalar.addi c0_i32_1792 v1611
  v1612.toNat
def k0_mult69 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1793 : BitVec 32 := 1#32
  let v1613 : BitVec 32 := Scalar.addi v2 c1_i32_1793
  let c2_i32_1794 : BitVec 32 := 2#32
  let v1614 : BitVec 32 := Scalar.subi v1613 c2_i32_1794
  let c16_i32_1795 : BitVec 32 := 16#32
  let v1615 : BitVec 32 := Scalar.addi v1614 c16_i32_1795
  let c8_i32_1796 : BitVec 32 := 8#32
  let v1616 : BitVec 32 := Scalar.remsi v1615 c8_i32_1796
  let c256_i32_1807 : BitVec 32 := 256#32
  let v1627 : BitVec 32 := Scalar.muli v1616 c256_i32_1807
  v1627
def k0_mult70 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1797 : BitVec 32 := 2#32
  let v1617 : BitVec 32 := Scalar.subi v2 c2_i32_1797
  let c16_i32_1798 : BitVec 32 := 16#32
  let v1618 : BitVec 32 := Scalar.addi v1617 c16_i32_1798
  let c8_i32_1799 : BitVec 32 := 8#32
  let v1619 : BitVec 32 := Scalar.remsi v1618 c8_i32_1799
  let c256_i32_1808 : BitVec 32 := 256#32
  let v1629 : BitVec 32 := Scalar.muli v1619 c256_i32_1808
  v1629
def k0_mult71 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1800 : BitVec 32 := 1#32
  let v1620 : BitVec 32 := Scalar.subi v2 c1_i32_1800
  let c2_i32_1801 : BitVec 32 := 2#32
  let v1621 : BitVec 32 := Scalar.addi v1620 c2_i32_1801
  let c16_i32_1802 : BitVec 32 := 16#32
  let v1622 : BitVec 32 := Scalar.addi v1621 c16_i32_1802
  let c8_i32_1803 : BitVec 32 := 8#32
  let v1623 : BitVec 32 := Scalar.remsi v1622 c8_i32_1803
  let c256_i32_1809 : BitVec 32 := 256#32
  let v1631 : BitVec 32 := Scalar.muli v1623 c256_i32_1809
  v1631
def k0_mult72 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1804 : BitVec 32 := 2#32
  let v1624 : BitVec 32 := Scalar.addi v2 c2_i32_1804
  let c16_i32_1805 : BitVec 32 := 16#32
  let v1625 : BitVec 32 := Scalar.addi v1624 c16_i32_1805
  let c8_i32_1806 : BitVec 32 := 8#32
  let v1626 : BitVec 32 := Scalar.remsi v1625 c8_i32_1806
  let c256_i32_1810 : BitVec 32 := 256#32
  let v1633 : BitVec 32 := Scalar.muli v1626 c256_i32_1810
  v1633
def k0_dev41 (d0 : Dev nD) : Nat :=
  let c0_i32_1816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1815 : BitVec 32 := 1#32
  let v1635 : BitVec 32 := Scalar.muli v7 c1_i32_1815
  let v1636 : BitVec 32 := Scalar.addi c0_i32_1816 v1635
  v1636.toNat
def k0_dev42 (d0 : Dev nD) : Nat :=
  let c0_i32_1820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1819 : BitVec 32 := 1#32
  let v1638 : BitVec 32 := Scalar.muli v5 c1_i32_1819
  let v1639 : BitVec 32 := Scalar.addi c0_i32_1820 v1638
  v1639.toNat
def k0_dev43 (d0 : Dev nD) : Nat :=
  let c0_i32_1847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1846 : BitVec 32 := 1#32
  let v1653 : BitVec 32 := Scalar.muli v5 c1_i32_1846
  let v1654 : BitVec 32 := Scalar.addi c0_i32_1847 v1653
  v1654.toNat
def k0_dev44 (d0 : Dev nD) : Nat :=
  let c0_i32_1850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1849 : BitVec 32 := 1#32
  let v1655 : BitVec 32 := Scalar.muli v7 c1_i32_1849
  let v1656 : BitVec 32 := Scalar.addi c0_i32_1850 v1655
  v1656.toNat
def k0_mult73 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1851 : BitVec 32 := 1#32
  let v1657 : BitVec 32 := Scalar.addi v2 c1_i32_1851
  let c3_i32_1852 : BitVec 32 := 3#32
  let v1658 : BitVec 32 := Scalar.subi v1657 c3_i32_1852
  let c16_i32_1853 : BitVec 32 := 16#32
  let v1659 : BitVec 32 := Scalar.addi v1658 c16_i32_1853
  let c8_i32_1854 : BitVec 32 := 8#32
  let v1660 : BitVec 32 := Scalar.remsi v1659 c8_i32_1854
  let c256_i32_1865 : BitVec 32 := 256#32
  let v1671 : BitVec 32 := Scalar.muli v1660 c256_i32_1865
  v1671
def k0_mult74 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1855 : BitVec 32 := 3#32
  let v1661 : BitVec 32 := Scalar.subi v2 c3_i32_1855
  let c16_i32_1856 : BitVec 32 := 16#32
  let v1662 : BitVec 32 := Scalar.addi v1661 c16_i32_1856
  let c8_i32_1857 : BitVec 32 := 8#32
  let v1663 : BitVec 32 := Scalar.remsi v1662 c8_i32_1857
  let c256_i32_1866 : BitVec 32 := 256#32
  let v1673 : BitVec 32 := Scalar.muli v1663 c256_i32_1866
  v1673
def k0_mult75 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1858 : BitVec 32 := 1#32
  let v1664 : BitVec 32 := Scalar.subi v2 c1_i32_1858
  let c3_i32_1859 : BitVec 32 := 3#32
  let v1665 : BitVec 32 := Scalar.addi v1664 c3_i32_1859
  let c16_i32_1860 : BitVec 32 := 16#32
  let v1666 : BitVec 32 := Scalar.addi v1665 c16_i32_1860
  let c8_i32_1861 : BitVec 32 := 8#32
  let v1667 : BitVec 32 := Scalar.remsi v1666 c8_i32_1861
  let c256_i32_1867 : BitVec 32 := 256#32
  let v1675 : BitVec 32 := Scalar.muli v1667 c256_i32_1867
  v1675
def k0_mult76 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1862 : BitVec 32 := 3#32
  let v1668 : BitVec 32 := Scalar.addi v2 c3_i32_1862
  let c16_i32_1863 : BitVec 32 := 16#32
  let v1669 : BitVec 32 := Scalar.addi v1668 c16_i32_1863
  let c8_i32_1864 : BitVec 32 := 8#32
  let v1670 : BitVec 32 := Scalar.remsi v1669 c8_i32_1864
  let c256_i32_1868 : BitVec 32 := 256#32
  let v1677 : BitVec 32 := Scalar.muli v1670 c256_i32_1868
  v1677
def k0_dev45 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1873 : BitVec 32 := 1#32
  let v1679 : BitVec 32 := Scalar.muli v7 c1_i32_1873
  let v1680 : BitVec 32 := Scalar.addi c0_i32_1874 v1679
  v1680.toNat
def k0_dev46 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1877 : BitVec 32 := 1#32
  let v1682 : BitVec 32 := Scalar.muli v5 c1_i32_1877
  let v1683 : BitVec 32 := Scalar.addi c0_i32_1878 v1682
  v1683.toNat
def k0_dev47 (d0 : Dev nD) : Nat :=
  let c0_i32_1905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1904 : BitVec 32 := 1#32
  let v1697 : BitVec 32 := Scalar.muli v5 c1_i32_1904
  let v1698 : BitVec 32 := Scalar.addi c0_i32_1905 v1697
  v1698.toNat
def k0_dev48 (d0 : Dev nD) : Nat :=
  let c0_i32_1908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1907 : BitVec 32 := 1#32
  let v1699 : BitVec 32 := Scalar.muli v7 c1_i32_1907
  let v1700 : BitVec 32 := Scalar.addi c0_i32_1908 v1699
  v1700.toNat
def k0_mult77 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1909 : BitVec 32 := 1#32
  let v1701 : BitVec 32 := Scalar.addi v2 c1_i32_1909
  let c4_i32_1910 : BitVec 32 := 4#32
  let v1702 : BitVec 32 := Scalar.subi v1701 c4_i32_1910
  let c16_i32_1911 : BitVec 32 := 16#32
  let v1703 : BitVec 32 := Scalar.addi v1702 c16_i32_1911
  let c8_i32_1912 : BitVec 32 := 8#32
  let v1704 : BitVec 32 := Scalar.remsi v1703 c8_i32_1912
  let c256_i32_1923 : BitVec 32 := 256#32
  let v1715 : BitVec 32 := Scalar.muli v1704 c256_i32_1923
  v1715
def k0_mult78 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1913 : BitVec 32 := 4#32
  let v1705 : BitVec 32 := Scalar.subi v2 c4_i32_1913
  let c16_i32_1914 : BitVec 32 := 16#32
  let v1706 : BitVec 32 := Scalar.addi v1705 c16_i32_1914
  let c8_i32_1915 : BitVec 32 := 8#32
  let v1707 : BitVec 32 := Scalar.remsi v1706 c8_i32_1915
  let c256_i32_1924 : BitVec 32 := 256#32
  let v1717 : BitVec 32 := Scalar.muli v1707 c256_i32_1924
  v1717
def k0_mult79 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1916 : BitVec 32 := 1#32
  let v1708 : BitVec 32 := Scalar.subi v2 c1_i32_1916
  let c4_i32_1917 : BitVec 32 := 4#32
  let v1709 : BitVec 32 := Scalar.addi v1708 c4_i32_1917
  let c16_i32_1918 : BitVec 32 := 16#32
  let v1710 : BitVec 32 := Scalar.addi v1709 c16_i32_1918
  let c8_i32_1919 : BitVec 32 := 8#32
  let v1711 : BitVec 32 := Scalar.remsi v1710 c8_i32_1919
  let c256_i32_1925 : BitVec 32 := 256#32
  let v1719 : BitVec 32 := Scalar.muli v1711 c256_i32_1925
  v1719
def k0_mult80 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1920 : BitVec 32 := 4#32
  let v1712 : BitVec 32 := Scalar.addi v2 c4_i32_1920
  let c16_i32_1921 : BitVec 32 := 16#32
  let v1713 : BitVec 32 := Scalar.addi v1712 c16_i32_1921
  let c8_i32_1922 : BitVec 32 := 8#32
  let v1714 : BitVec 32 := Scalar.remsi v1713 c8_i32_1922
  let c256_i32_1926 : BitVec 32 := 256#32
  let v1721 : BitVec 32 := Scalar.muli v1714 c256_i32_1926
  v1721
def k0_dev49 (d0 : Dev nD) : Nat :=
  let c0_i32_1932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1931 : BitVec 32 := 1#32
  let v1723 : BitVec 32 := Scalar.muli v7 c1_i32_1931
  let v1724 : BitVec 32 := Scalar.addi c0_i32_1932 v1723
  v1724.toNat
def k0_dev50 (d0 : Dev nD) : Nat :=
  let c0_i32_1936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1935 : BitVec 32 := 1#32
  let v1726 : BitVec 32 := Scalar.muli v5 c1_i32_1935
  let v1727 : BitVec 32 := Scalar.addi c0_i32_1936 v1726
  v1727.toNat
def k0_dev51 (d0 : Dev nD) : Nat :=
  let c0_i32_1963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1962 : BitVec 32 := 1#32
  let v1741 : BitVec 32 := Scalar.muli v5 c1_i32_1962
  let v1742 : BitVec 32 := Scalar.addi c0_i32_1963 v1741
  v1742.toNat
def k0_dev52 (d0 : Dev nD) : Nat :=
  let c0_i32_1966 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1965 : BitVec 32 := 1#32
  let v1743 : BitVec 32 := Scalar.muli v7 c1_i32_1965
  let v1744 : BitVec 32 := Scalar.addi c0_i32_1966 v1743
  v1744.toNat
def k0_mult81 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1967 : BitVec 32 := 1#32
  let v1745 : BitVec 32 := Scalar.addi v2 c1_i32_1967
  let c5_i32_1968 : BitVec 32 := 5#32
  let v1746 : BitVec 32 := Scalar.subi v1745 c5_i32_1968
  let c16_i32_1969 : BitVec 32 := 16#32
  let v1747 : BitVec 32 := Scalar.addi v1746 c16_i32_1969
  let c8_i32_1970 : BitVec 32 := 8#32
  let v1748 : BitVec 32 := Scalar.remsi v1747 c8_i32_1970
  let c256_i32_1981 : BitVec 32 := 256#32
  let v1759 : BitVec 32 := Scalar.muli v1748 c256_i32_1981
  v1759
def k0_mult82 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1971 : BitVec 32 := 5#32
  let v1749 : BitVec 32 := Scalar.subi v2 c5_i32_1971
  let c16_i32_1972 : BitVec 32 := 16#32
  let v1750 : BitVec 32 := Scalar.addi v1749 c16_i32_1972
  let c8_i32_1973 : BitVec 32 := 8#32
  let v1751 : BitVec 32 := Scalar.remsi v1750 c8_i32_1973
  let c256_i32_1982 : BitVec 32 := 256#32
  let v1761 : BitVec 32 := Scalar.muli v1751 c256_i32_1982
  v1761
def k0_mult83 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1974 : BitVec 32 := 1#32
  let v1752 : BitVec 32 := Scalar.subi v2 c1_i32_1974
  let c5_i32_1975 : BitVec 32 := 5#32
  let v1753 : BitVec 32 := Scalar.addi v1752 c5_i32_1975
  let c16_i32_1976 : BitVec 32 := 16#32
  let v1754 : BitVec 32 := Scalar.addi v1753 c16_i32_1976
  let c8_i32_1977 : BitVec 32 := 8#32
  let v1755 : BitVec 32 := Scalar.remsi v1754 c8_i32_1977
  let c256_i32_1983 : BitVec 32 := 256#32
  let v1763 : BitVec 32 := Scalar.muli v1755 c256_i32_1983
  v1763
def k0_mult84 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1978 : BitVec 32 := 5#32
  let v1756 : BitVec 32 := Scalar.addi v2 c5_i32_1978
  let c16_i32_1979 : BitVec 32 := 16#32
  let v1757 : BitVec 32 := Scalar.addi v1756 c16_i32_1979
  let c8_i32_1980 : BitVec 32 := 8#32
  let v1758 : BitVec 32 := Scalar.remsi v1757 c8_i32_1980
  let c256_i32_1984 : BitVec 32 := 256#32
  let v1765 : BitVec 32 := Scalar.muli v1758 c256_i32_1984
  v1765
def k0_dev53 (d0 : Dev nD) : Nat :=
  let c0_i32_1990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1989 : BitVec 32 := 1#32
  let v1767 : BitVec 32 := Scalar.muli v7 c1_i32_1989
  let v1768 : BitVec 32 := Scalar.addi c0_i32_1990 v1767
  v1768.toNat
def k0_dev54 (d0 : Dev nD) : Nat :=
  let c0_i32_1994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1993 : BitVec 32 := 1#32
  let v1770 : BitVec 32 := Scalar.muli v5 c1_i32_1993
  let v1771 : BitVec 32 := Scalar.addi c0_i32_1994 v1770
  v1771.toNat
def k0_dev55 (d0 : Dev nD) : Nat :=
  let c0_i32_2021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2020 : BitVec 32 := 1#32
  let v1785 : BitVec 32 := Scalar.muli v5 c1_i32_2020
  let v1786 : BitVec 32 := Scalar.addi c0_i32_2021 v1785
  v1786.toNat
def k0_dev56 (d0 : Dev nD) : Nat :=
  let c0_i32_2024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2023 : BitVec 32 := 1#32
  let v1787 : BitVec 32 := Scalar.muli v7 c1_i32_2023
  let v1788 : BitVec 32 := Scalar.addi c0_i32_2024 v1787
  v1788.toNat
def k0_mult85 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2025 : BitVec 32 := 1#32
  let v1789 : BitVec 32 := Scalar.addi v2 c1_i32_2025
  let c6_i32_2026 : BitVec 32 := 6#32
  let v1790 : BitVec 32 := Scalar.subi v1789 c6_i32_2026
  let c16_i32_2027 : BitVec 32 := 16#32
  let v1791 : BitVec 32 := Scalar.addi v1790 c16_i32_2027
  let c8_i32_2028 : BitVec 32 := 8#32
  let v1792 : BitVec 32 := Scalar.remsi v1791 c8_i32_2028
  let c256_i32_2039 : BitVec 32 := 256#32
  let v1803 : BitVec 32 := Scalar.muli v1792 c256_i32_2039
  v1803
def k0_mult86 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2029 : BitVec 32 := 6#32
  let v1793 : BitVec 32 := Scalar.subi v2 c6_i32_2029
  let c16_i32_2030 : BitVec 32 := 16#32
  let v1794 : BitVec 32 := Scalar.addi v1793 c16_i32_2030
  let c8_i32_2031 : BitVec 32 := 8#32
  let v1795 : BitVec 32 := Scalar.remsi v1794 c8_i32_2031
  let c256_i32_2040 : BitVec 32 := 256#32
  let v1805 : BitVec 32 := Scalar.muli v1795 c256_i32_2040
  v1805
def k0_mult87 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2032 : BitVec 32 := 1#32
  let v1796 : BitVec 32 := Scalar.subi v2 c1_i32_2032
  let c6_i32_2033 : BitVec 32 := 6#32
  let v1797 : BitVec 32 := Scalar.addi v1796 c6_i32_2033
  let c16_i32_2034 : BitVec 32 := 16#32
  let v1798 : BitVec 32 := Scalar.addi v1797 c16_i32_2034
  let c8_i32_2035 : BitVec 32 := 8#32
  let v1799 : BitVec 32 := Scalar.remsi v1798 c8_i32_2035
  let c256_i32_2041 : BitVec 32 := 256#32
  let v1807 : BitVec 32 := Scalar.muli v1799 c256_i32_2041
  v1807
def k0_mult88 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2036 : BitVec 32 := 6#32
  let v1800 : BitVec 32 := Scalar.addi v2 c6_i32_2036
  let c16_i32_2037 : BitVec 32 := 16#32
  let v1801 : BitVec 32 := Scalar.addi v1800 c16_i32_2037
  let c8_i32_2038 : BitVec 32 := 8#32
  let v1802 : BitVec 32 := Scalar.remsi v1801 c8_i32_2038
  let c256_i32_2042 : BitVec 32 := 256#32
  let v1809 : BitVec 32 := Scalar.muli v1802 c256_i32_2042
  v1809
def k0_dev57 (d0 : Dev nD) : Nat :=
  let c0_i32_2048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2047 : BitVec 32 := 1#32
  let v1811 : BitVec 32 := Scalar.muli v7 c1_i32_2047
  let v1812 : BitVec 32 := Scalar.addi c0_i32_2048 v1811
  v1812.toNat
def k0_dev58 (d0 : Dev nD) : Nat :=
  let c0_i32_2052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2051 : BitVec 32 := 1#32
  let v1814 : BitVec 32 := Scalar.muli v5 c1_i32_2051
  let v1815 : BitVec 32 := Scalar.addi c0_i32_2052 v1814
  v1815.toNat
abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x8192 : Shape := ⟨3, ![4, 2048, 8192]⟩
abbrev S4x8192 : Shape := ⟨2, ![4, 8192]⟩
abbrev S8192x1024 : Shape := ⟨2, ![8192, 1024]⟩
abbrev S_ : Shape := ⟨0, ![]⟩
abbrev S4x3x8192 : Shape := ⟨3, ![4, 3, 8192]⟩
abbrev S4x2051x8192 : Shape := ⟨3, ![4, 2051, 8192]⟩
abbrev S1x8192 : Shape := ⟨2, ![1, 8192]⟩
abbrev S8192 : Shape := ⟨1, ![8192]⟩
abbrev S1x1x8192 : Shape := ⟨3, ![1, 1, 8192]⟩
abbrev S4x2048x1024 : Shape := ⟨3, ![4, 2048, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x8192, .f32⟩
  | .hbm, ⟨1, _⟩ => ⟨S4x8192, .f32⟩
  | .hbm, ⟨2, _⟩ => ⟨S8192x1024, .f32⟩
  | .hbm, ⟨3, _⟩ => ⟨S_, .f32⟩
  | .hbm, ⟨4, _⟩ => ⟨S4x3x8192, .f32⟩
  | .hbm, ⟨5, _⟩ => ⟨S4x2051x8192, .f32⟩
  | .hbm, ⟨6, _⟩ => ⟨S_, .f32⟩
  | .hbm, ⟨7, _⟩ => ⟨S4x2048x8192, .f32⟩
  | .hbm, ⟨8, _⟩ => ⟨S4x2048x8192, .f32⟩
  | .hbm, ⟨9, _⟩ => ⟨S1x8192, .f32⟩
  | .hbm, ⟨10, _⟩ => ⟨S8192, .f32⟩
  | .hbm, ⟨11, _⟩ => ⟨S1x1x8192, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S1x8192, .f32⟩
  | .hbm, ⟨17, _⟩ => ⟨S8192, .f32⟩
  | .hbm, ⟨18, _⟩ => ⟨S1x1x8192, .f32⟩
  | .hbm, ⟨19, _⟩ => ⟨S4x2048x8192, .f32⟩
  | .hbm, ⟨20, _⟩ => ⟨S4x2048x8192, .f32⟩
  | .hbm, ⟨21, _⟩ => ⟨S4x2048x8192, .f32⟩
  | .hbm, ⟨22, _⟩ => ⟨S4x2048x8192, .f32⟩
  | .hbm, ⟨23, _⟩ => ⟨S1x8192, .f32⟩
  | .hbm, ⟨24, _⟩ => ⟨S8192, .f32⟩
  | .hbm, ⟨25, _⟩ => ⟨S1x1x8192, .f32⟩
  | .hbm, ⟨26, _⟩ => ⟨S4x2048x8192, .f32⟩
  | .hbm, ⟨27, _⟩ => ⟨S4x2048x8192, .f32⟩
  | .hbm, ⟨28, _⟩ => ⟨S4x2048x8192, .f32⟩
  | .hbm, ⟨29, _⟩ => ⟨S4x2048x8192, .f32⟩
  | .hbm, ⟨30, _⟩ => ⟨S1x8192, .f32⟩
  | .hbm, ⟨31, _⟩ => ⟨S8192, .f32⟩
  | .hbm, ⟨32, _⟩ => ⟨S1x1x8192, .f32⟩
  | .hbm, ⟨33, _⟩ => ⟨S4x2048x8192, .f32⟩
  | .hbm, ⟨34, _⟩ => ⟨S4x2048x8192, .f32⟩
  | .hbm, ⟨35, _⟩ => ⟨S4x2048x8192, .f32⟩
  | .hbm, ⟨36, _⟩ => ⟨S4x2048x8192, .f32⟩
  | .hbm, ⟨37, _⟩ => ⟨S4x2048x8192, .f32⟩
  | .hbm, ⟨38, _⟩ => ⟨S_, .f32⟩
  | .hbm, ⟨39, _⟩ => ⟨S4x2048x8192, .f32⟩
  | .hbm, ⟨40, _⟩ => ⟨S4x2048x8192, .f32⟩
  | .hbm, ⟨41, _⟩ => ⟨S4x2048x8192, .f32⟩
  | .hbm, ⟨42, _⟩ => ⟨S4x2048x1024, .f32⟩
  | _, _ => ⟨S4x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Proof.Segments.lean ====
/- The kernel's body as a short chain of segments: the opening handshake, the block product of one half of a
   chunk, one step of the summing ring, one step of the gathering ring. -/
module

public import proofs.«01_k».proof.Proof.Gen.KernelIdeal.Launch
public import proofs.«01_k».proof.Proof.Gen.KernelIdeal.Points

@[expose] public section

noncomputable section

namespace Cert.KernelIdeal.Conv

open Idealize.ShloMosaic Idealize.SL.Sem Idealize.ShloMosaic.Pipeline Idealize.ShloMosaic.TcCoe
open Cert.KernelIdeal Cert.KernelIdeal.Gen

variable {F : FTy → Type} [FloatOps F]

/-- The kernel's programs. -/
abbrev P (F : FTy → Type) [FloatOps F] (α : Type) := Prog (TpuEff nD τ sig (Elt F) Λ₀ .tc) α

/-- The sharded input, the result, and the kernel's own buffers. -/
abbrev xM : Memref sig .tc .hbm S4x2048x1024 .f32 := Memref.whole main_arg0
abbrev oM : Memref sig .tc .hbm S4x2048x1024 .f32 := Memref.whole main_v1
abbrev xb : Memref sig .tc .vmem S2x264x1024 .f32 := Memref.whole cc0_scratch0
abbrev ob : Memref sig .tc .vmem S2x256x1024 .f32 := Memref.whole cc0_scratch1
abbrev aA : Memref sig .tc .vmem S2x256x1024 .f32 := Memref.whole cc0_scratch2
abbrev aB : Memref sig .tc .vmem S2x256x1024 .f32 := Memref.whole cc0_scratch3
abbrev rA : Memref sig .tc .vmem S2x256x1024 .f32 := Memref.whole cc0_scratch4
abbrev rB : Memref sig .tc .vmem S2x256x1024 .f32 := Memref.whole cc0_scratch5

/-- The staged filter and the staged weights, at the grid's one point. -/
abbrev kM : Memref sig .tc .vmem S4x1024 .f32 := win0_0.stage (cfg0.slots t0_0 0)
abbrev wM : Memref sig .tc .vmem S1024x1024 .f32 := win0_1.stage (cfg0.slots t0_0 1)

/-- A chunk of one half of the batches: its offsets lie inside the array. -/
abbrev In (o : Fin 3 → ℕ) : Prop := ∀ a, o a + S2x256x1024.size a ≤ S4x2048x1024.size a
/-- The eight rows before a chunk. -/
abbrev InH (o : Fin 3 → ℕ) : Prop := ∀ a, o a + S2x8x1024.size a ≤ S4x2048x1024.size a

/-- A chunk of the result, of the input, and the rows before it. -/
abbrev oC (o : Fin 3 → ℕ) (h : In o) : Memref sig .tc .hbm S2x256x1024 .f32 :=
  oM.slice (Rect.unit (s := S4x2048x1024) o S2x256x1024.size h) (fun _ => rfl)
abbrev xC (o : Fin 3 → ℕ) (h : In o) : Memref sig .tc .hbm S2x256x1024 .f32 :=
  xM.slice (Rect.unit (s := S4x2048x1024) o S2x256x1024.size h) (fun _ => rfl)
abbrev xH (o : Fin 3 → ℕ) (h : InH o) : Memref sig .tc .hbm S2x8x1024 .f32 :=
  xM.slice (Rect.unit (s := S4x2048x1024) o S2x8x1024.size h) (fun _ => rfl)
/-- The two parts of the input buffer: the chunk and the rows before it. -/
abbrev xb8 : Memref sig .tc .vmem S2x256x1024 .f32 :=
  xb.slice (Rect.unit (s := S2x264x1024) ![0, 8, 0] S2x256x1024.size inb_S2x264x1024_S2x256x1024_0_8_0) (fun _ => rfl)
abbrev xb0 : Memref sig .tc .vmem S2x8x1024 .f32 :=
  xb.slice (Rect.unit (s := S2x264x1024) ![0, 0, 0] S2x8x1024.size inb_S2x264x1024_S2x8x1024_0_0_0) (fun _ => rfl)

/-- A device's number as the kernel computes it. -/
abbrev myW (d : Dev nD) : BitVec 32 := Scalar.remsi (Scalar.divsi (Dev.word d) 1#32) 8#32

/-- The rows before the chunk are brought in beside the chunk, and both waited for. -/
def fetchHalf (o : Fin 3 → ℕ) (ho : In o) (h : Fin 3 → ℕ) (hh : InH h) : P F PUnit := do
  Prog.lift (.enqueueDma (xC o ho) (.here xb8) (.dma cc0_scratch7.sem) (View.wordExact_bits rfl) (View.wordExact_bits rfl) ⟨Or.inl rfl, trivial⟩)
  Prog.lift (.enqueueDma (xH h hh) (.here xb0) (.dma cc0_scratch8.sem) (View.wordExact_bits rfl) (View.wordExact_bits rfl) ⟨Or.inl rfl, trivial⟩)
  Prog.lift (.waitDma2 cc0_scratch7.sem (xC o ho) xb8 (View.wordExact_bits rfl) (View.wordExact_bits rfl))
  Prog.lift (.waitDma2 cc0_scratch8.sem (xH h hh) xb0 (View.wordExact_bits rfl) (View.wordExact_bits rfl))

/-- The rows before the chunk, zeroed for the first chunk. -/
def maskHalo (w : BitVec 32) (v : Vec F S2x8x1024 .f32) : FVec F S2x8x1024 .f32 :=
  shapeCast S2x8x1024 (mulf v (broadcast S2x8x1024
    (Scalar.select (Scalar.cmpi .eq w 0#32) (Scalar.ofBits .f32 0x00000000#32) (Scalar.ofBits .f32 0x3F800000#32) : F .f32)))
    shapeCasts_S2x8x1024_S2x8x1024

/-- One row of the filter, along every position. -/
def tap (v : Vec F S1x1024 .f32) : FVec F S2x256x1024 .f32 :=
  broadcastTo S2x256x1024 (shapeCast S1x1x1024 (shapeCast S1024 v shapeCasts_S1x1024_S1024) shapeCasts_S1024_S1x1x1024)
    broadcasts_S1x1x1024_S2x256x1024

/-- The filtered chunk through the activation, from the four shifted windows and the four taps. -/
def act (x3 x2 x1 x0 : Vec F S2x256x1024 .f32) (k3 k2 k1 k0 : Vec F S1x1024 .f32) : FVec F S2x256x1024 .f32 :=
  have s : FVec F S2x256x1024 .f32 := addf (addf (addf (mulf x3 (tap k3)) (mulf x2 (tap k2))) (mulf x1 (tap k1))) (mulf x0 (tap k0))
  mulf s (logistic s)

/-- One batch's product with the weights. -/
def prod0 (a : FVec F S2x256x1024 .f32) (w : Vec F S1024x1024 .f32) : FVec F S1x256x1024 .f32 :=
  shapeCast S1x256x1024 (matmul dot_S256x1024_S1024x1024_S256x1024_1_0_0_1_n_n none
    (shapeCast S256x1024 (extractStridedSlice S1x256x1024 ![0, 0, 0] a slices_S2x256x1024_o0_0_0_S1x256x1024) shapeCasts_S1x256x1024_S256x1024)
    (shapeCast S1024x1024 w shapeCasts_S1024x1024_S1024x1024) (constant S256x1024 .f32 0x00000000#32)) shapeCasts_S256x1024_S1x256x1024
def prod1 (a : FVec F S2x256x1024 .f32) (w : Vec F S1024x1024 .f32) : FVec F S1x256x1024 .f32 :=
  shapeCast S1x256x1024 (matmul dot_S256x1024_S1024x1024_S256x1024_1_0_0_1_n_n none
    (shapeCast S256x1024 (extractStridedSlice S1x256x1024 ![1, 0, 0] a slices_S2x256x1024_o1_0_0_S1x256x1024) shapeCasts_S1x256x1024_S256x1024)
    (shapeCast S1024x1024 w shapeCasts_S1024x1024_S1024x1024) (constant S256x1024 .f32 0x00000000#32)) shapeCasts_S256x1024_S1x256x1024

/-- The block product of the chunk in the input buffer, into the output buffer. -/
def blockHalf (w : BitVec 32) : P F PUnit := do
  let v32 : Vec F S2x8x1024 .f32 ← Prog.lift (.load xb (Rect.unit (s := S2x264x1024) ![0, 0, 0] S2x8x1024.size inb_S2x264x1024_S2x8x1024_0_0_0).toLoadRect (View.loadsAt_vmem h_S2x8x1024))
  let _v35 : Vec F S2x8x1024 .f32 ← Prog.lift (.load xb (Rect.unit (s := S2x264x1024) ![0, 0, 0] S2x8x1024.size inb_S2x264x1024_S2x8x1024_0_0_0).toLoadRect (View.loadsAt_vmem h_S2x8x1024))
  Prog.lift (.store xb (Rect.unit (s := S2x264x1024) ![0, 0, 0] S2x8x1024.size inb_S2x264x1024_S2x8x1024_0_0_0) (maskHalo w v32) Finset.univ (View.stores_vmem_bits_univ h_S2x8x1024 rfl) (.inl rfl))
  let v38 : Vec F S2x256x1024 .f32 ← Prog.lift (.load xb (Rect.unit (s := S2x264x1024) ![0, 8, 0] S2x256x1024.size inb_S2x264x1024_S2x256x1024_0_8_0).toLoadRect (View.loadsAt_vmem h_S2x256x1024))
  let v39 : Vec F S1x1024 .f32 ← Prog.lift (.load kM (Rect.unit (s := S4x1024) ![3, 0] S1x1024.size inb_S4x1024_S1x1024_3_0).toLoadRect (View.loadsAt_vmem h_S1x1024))
  let v44 : Vec F S1x1024 .f32 ← Prog.lift (.load kM (Rect.unit (s := S4x1024) ![2, 0] S1x1024.size inb_S4x1024_S1x1024_2_0).toLoadRect (View.loadsAt_vmem h_S1x1024))
  let v47 : Vec F S2x256x1024 .f32 ← Prog.lift (.load xb (Rect.unit (s := S2x264x1024) ![0, 7, 0] S2x256x1024.size inb_S2x264x1024_S2x256x1024_0_7_0).toLoadRect (View.loadsAt_vmem h_S2x256x1024))
  let v51 : Vec F S1x1024 .f32 ← Prog.lift (.load kM (Rect.unit (s := S4x1024) ![1, 0] S1x1024.size inb_S4x1024_S1x1024_1_0).toLoadRect (View.loadsAt_vmem h_S1x1024))
  let v54 : Vec F S2x256x1024 .f32 ← Prog.lift (.load xb (Rect.unit (s := S2x264x1024) ![0, 6, 0] S2x256x1024.size inb_S2x264x1024_S2x256x1024_0_6_0).toLoadRect (View.loadsAt_vmem h_S2x256x1024))
  let v58 : Vec F S1x1024 .f32 ← Prog.lift (.load kM (Rect.unit (s := S4x1024) ![0, 0] S1x1024.size inb_S4x1024_S1x1024_0_0).toLoadRect (View.loadsAt_vmem h_S1x1024))
  let v61 : Vec F S2x256x1024 .f32 ← Prog.lift (.load xb (Rect.unit (s := S2x264x1024) ![0, 5, 0] S2x256x1024.size inb_S2x264x1024_S2x256x1024_0_5_0).toLoadRect (View.loadsAt_vmem h_S2x256x1024))
  let v69 : Vec F S1024x1024 .f32 ← Prog.lift (.load wM (Rect.unit (s := S1024x1024) ![0, 0] S1024x1024.size inb_S1024x1024_S1024x1024_0_0).toLoadRect (View.loadsAt_vmem h_S1024x1024))
  let _v72 : Vec F S1x256x1024 .f32 ← Prog.lift (.load ob (Rect.unit (s := S2x256x1024) ![0, 0, 0] S1x256x1024.size inb_S2x256x1024_S1x256x1024_0_0_0).toLoadRect (View.loadsAt_vmem h_S1x256x1024))
  Prog.lift (.store ob (Rect.unit (s := S2x256x1024) ![0, 0, 0] S1x256x1024.size inb_S2x256x1024_S1x256x1024_0_0_0) (prod0 (act v38 v47 v54 v61 v39 v44 v51 v58) v69) Finset.univ (View.stores_vmem_bits_univ h_S1x256x1024 rfl) (.inl rfl))
  let v77 : Vec F S1024x1024 .f32 ← Prog.lift (.load wM (Rect.unit (s := S1024x1024) ![0, 0] S1024x1024.size inb_S1024x1024_S1024x1024_0_0).toLoadRect (View.loadsAt_vmem h_S1024x1024))
  let _v80 : Vec F S1x256x1024 .f32 ← Prog.lift (.load ob (Rect.unit (s := S2x256x1024) ![1, 0, 0] S1x256x1024.size inb_S2x256x1024_S1x256x1024_1_0_0).toLoadRect (View.loadsAt_vmem h_S1x256x1024))
  Prog.lift (.store ob (Rect.unit (s := S2x256x1024) ![1, 0, 0] S1x256x1024.size inb_S2x256x1024_S1x256x1024_1_0_0) (prod1 (act v38 v47 v54 v61 v39 v44 v51 v58) v77) Finset.univ (View.stores_vmem_bits_univ h_S1x256x1024 rfl) (.inl rfl))

/-- The output buffer stored to a chunk of the result. -/
def putHalf (o : Fin 3 → ℕ) (ho : In o) : P F PUnit := do
  Prog.lift (.enqueueDma ob (.here (oC o ho)) (.dma cc0_scratch9.sem) (Memref.isWhole_whole _).wordExact (View.wordExact_bits rfl) ⟨Or.inl rfl, trivial⟩)
  Prog.lift (.waitDma2 cc0_scratch9.sem ob (oC o ho) (Memref.isWhole_whole _).wordExact (View.wordExact_bits rfl))

/-- One half of a chunk: fetched, multiplied, stored. -/
def half (w : BitVec 32) (o : Fin 3 → ℕ) (ho : In o) (h : Fin 3 → ℕ) (hh : InH h) : P F PUnit := do
  fetchHalf o ho h hh
  blockHalf w
  putHalf o ho

/-- The opening handshake on the barrier with both neighbours, and the first credit to each. -/
def opening (l r l' r' : Dev nD) : P F PUnit := do
  semSignalWord l (SemArray.scalar (sig.barrier 0 rfl) : Sems sig S_).sem 1#32
  semSignalWord r (SemArray.scalar (sig.barrier 0 rfl) : Sems sig S_).sem 1#32
  semWaitWord (SemArray.scalar (sig.barrier 0 rfl) : Sems sig S_).sem 2#32
  semSignalWord l' cc0_scratch14.sem 1#32
  semSignalWord r' cc0_scratch15.sem 1#32

/-- Both credits awaited, both chunks sent. -/
def sendPair (r l : Dev nD) (oa : Fin 3 → ℕ) (ha : In oa) (ob : Fin 3 → ℕ) (hb : In ob) : P F PUnit := do
  semWaitWord cc0_scratch14.sem 1#32
  semWaitWord cc0_scratch15.sem 1#32
  Prog.lift (.enqueueDma (oC oa ha) (.remote (Dev.tc r) rA (.dma cc0_scratch10.sem)) (.dma cc0_scratch11.sem) (View.wordExact_bits rfl) (Memref.isWhole_whole _).wordExact ⟨⟨rfl, Or.inl rfl⟩, trivial⟩)
  Prog.lift (.enqueueDma (oC ob hb) (.remote (Dev.tc l) rB (.dma cc0_scratch12.sem)) (.dma cc0_scratch13.sem) (View.wordExact_bits rfl) (Memref.isWhole_whole _).wordExact ⟨⟨rfl, Or.inl rfl⟩, trivial⟩)

/-- Both transfers awaited, each at both ends. -/
def awaitPair (oa : Fin 3 → ℕ) (ha : In oa) (ob : Fin 3 → ℕ) (hb : In ob) : P F PUnit := do
  Prog.lift (.waitDma2 cc0_scratch10.sem rA (oC oa ha) (Memref.isWhole_whole _).wordExact (View.wordExact_bits rfl))
  Prog.lift (.waitDma2 cc0_scratch11.sem (oC oa ha) rA (View.wordExact_bits rfl) (Memref.isWhole_whole _).wordExact)
  Prog.lift (.waitDma2 cc0_scratch12.sem rB (oC ob hb) (Memref.isWhole_whole _).wordExact (View.wordExact_bits rfl))
  Prog.lift (.waitDma2 cc0_scratch13.sem (oC ob hb) rB (View.wordExact_bits rfl) (Memref.isWhole_whole _).wordExact)

/-- Both chunks just multiplied, brought into the accumulators. -/
def loadPair (oa : Fin 3 → ℕ) (ha : In oa) (ob : Fin 3 → ℕ) (hb : In ob) : P F PUnit := do
  Prog.lift (.enqueueDma (oC oa ha) (.here aA) (.dma cc0_scratch6.sem) (View.wordExact_bits rfl) (Memref.isWhole_whole _).wordExact ⟨Or.inl rfl, trivial⟩)
  Prog.lift (.enqueueDma (oC ob hb) (.here aB) (.dma cc0_scratch6.sem) (View.wordExact_bits rfl) (Memref.isWhole_whole _).wordExact ⟨Or.inl rfl, trivial⟩)
  Prog.lift (.waitDma2 cc0_scratch6.sem (oC oa ha) aA (View.wordExact_bits rfl) (Memref.isWhole_whole _).wordExact)
  Prog.lift (.waitDma2 cc0_scratch6.sem (oC ob hb) aB (View.wordExact_bits rfl) (Memref.isWhole_whole _).wordExact)

/-- An accumulator plus what arrived. -/
def addOne (a r : Memref sig .tc .vmem S2x256x1024 .f32) : P F PUnit := do
  let v329 : Vec F S2x256x1024 .f32 ← Prog.lift (.load a (Rect.unit (s := S2x256x1024) ![0, 0, 0] S2x256x1024.size inb_S2x256x1024_S2x256x1024_0_0_0).toLoadRect (View.loadsAt_vmem h_S2x256x1024))
  let v330 : Vec F S2x256x1024 .f32 ← Prog.lift (.load r (Rect.unit (s := S2x256x1024) ![0, 0, 0] S2x256x1024.size inb_S2x256x1024_S2x256x1024_0_0_0).toLoadRect (View.loadsAt_vmem h_S2x256x1024))
  let _v332 : Vec F S2x256x1024 .f32 ← Prog.lift (.load a (Rect.unit (s := S2x256x1024) ![0, 0, 0] S2x256x1024.size inb_S2x256x1024_S2x256x1024_0_0_0).toLoadRect (View.loadsAt_vmem h_S2x256x1024))
  Prog.lift (.store a (Rect.unit (s := S2x256x1024) ![0, 0, 0] S2x256x1024.size inb_S2x256x1024_S2x256x1024_0_0_0) (shapeCast S2x256x1024 (addf v329 v330) shapeCasts_S2x256x1024_S2x256x1024) Finset.univ (View.stores_vmem_bits_univ h_S2x256x1024 rfl) (.inl rfl))

/-- Two buffers stored to two chunks of the result. -/
def storePair (a b : Memref sig .tc .vmem S2x256x1024 .f32) (wa : a.IsWhole) (wb : b.IsWhole) (oa : Fin 3 → ℕ) (ha : In oa) (ob : Fin 3 → ℕ) (hb : In ob) : P F PUnit := do
  Prog.lift (.enqueueDma a (.here (oC oa ha)) (.dma cc0_scratch9.sem) wa.wordExact (View.wordExact_bits rfl) ⟨Or.inl rfl, trivial⟩)
  Prog.lift (.enqueueDma b (.here (oC ob hb)) (.dma cc0_scratch9.sem) wb.wordExact (View.wordExact_bits rfl) ⟨Or.inl rfl, trivial⟩)
  Prog.lift (.waitDma2 cc0_scratch9.sem a (oC oa ha) wa.wordExact (View.wordExact_bits rfl))
  Prog.lift (.waitDma2 cc0_scratch9.sem b (oC ob hb) wb.wordExact (View.wordExact_bits rfl))

/-- The next credit to each neighbour. -/
def creditPair (l r : Dev nD) : P F PUnit := do
  semSignalWord l cc0_scratch14.sem 1#32
  semSignalWord r cc0_scratch15.sem 1#32

/-- The offsets' bounds, by the step. -/
abbrev w32 (r : Fin 7) : BitVec 32 := BitVec.ofNat 32 r.val

/-- The summing ring's step `r`: send, multiply the next chunk of either half, add what arrived. -/
def sumStep (d : Dev nD) (r : Fin 7) (sr sl cl cr : Dev nD) : P F PUnit := do
  sendPair sr sl (k0_off5 d (w32 r)) (k0_off5_inb d r) (k0_off6 d (w32 r)) (k0_off6_inb d r)
  half (Scalar.remsi (Scalar.addi (Scalar.subi (Scalar.subi (myW d) (w32 r)) 1#32) 16#32) 8#32) (k0_off7 d (w32 r)) (k0_off7_inb d r) (k0_off8 d (w32 r)) (k0_off8_inb d r)
  half (Scalar.remsi (Scalar.addi (Scalar.addi (Scalar.addi (myW d) (w32 r)) 1#32) 16#32) 8#32) (k0_off9 d (w32 r)) (k0_off9_inb d r) (k0_off10 d (w32 r)) (k0_off10_inb d r)
  loadPair (k0_off7 d (w32 r)) (k0_off7_inb d r) (k0_off9 d (w32 r)) (k0_off9_inb d r)
  awaitPair (k0_off5 d (w32 r)) (k0_off5_inb d r) (k0_off6 d (w32 r)) (k0_off6_inb d r)
  addOne aA rA
  addOne aB rB
  storePair aA aB (Memref.isWhole_whole _) (Memref.isWhole_whole _) (k0_off7 d (w32 r)) (k0_off7_inb d r) (k0_off9 d (w32 r)) (k0_off9_inb d r)
  creditPair cl cr

/-- The gathering ring's step `r`: send, store what arrived. -/
def gatherStep (d : Dev nD) (r : Fin 7) (sr sl : Dev nD) : P F PUnit := do
  sendPair sr sl (k0_off11 d (w32 r)) (k0_off11_inb d r) (k0_off12 d (w32 r)) (k0_off12_inb d r)
  awaitPair (k0_off11 d (w32 r)) (k0_off11_inb d r) (k0_off12 d (w32 r)) (k0_off12_inb d r)
  storePair rA rB (Memref.isWhole_whole _) (Memref.isWhole_whole _) (k0_off5 d (w32 r)) (k0_off5_inb d r) (k0_off6 d (w32 r)) (k0_off6_inb d r)

/-- The body, segment by segment. -/
def bodySegs : P F PUnit := do
  let d : Dev nD ← Prog.lift .deviceId
  opening ⟨k0_dev1 d, k0_dev1_lt d⟩ ⟨k0_dev2 d, k0_dev2_lt d⟩ ⟨k0_dev3 d, k0_dev3_lt d⟩ ⟨k0_dev4 d, k0_dev4_lt d⟩
  half (myW d) (k0_off1 d) (k0_off1_inb d) (k0_off2 d) (k0_off2_inb d)
  half (myW d) (k0_off3 d) (k0_off3_inb d) (k0_off4 d) (k0_off4_inb d)
  sumStep d 0 ⟨k0_dev5 d, k0_dev5_lt d⟩ ⟨k0_dev6 d, k0_dev6_lt d⟩ ⟨k0_dev7 d, k0_dev7_lt d⟩ ⟨k0_dev8 d, k0_dev8_lt d⟩
  sumStep d 1 ⟨k0_dev9 d, k0_dev9_lt d⟩ ⟨k0_dev10 d, k0_dev10_lt d⟩ ⟨k0_dev11 d, k0_dev11_lt d⟩ ⟨k0_dev12 d, k0_dev12_lt d⟩
  sumStep d 2 ⟨k0_dev13 d, k0_dev13_lt d⟩ ⟨k0_dev14 d, k0_dev14_lt d⟩ ⟨k0_dev15 d, k0_dev15_lt d⟩ ⟨k0_dev16 d, k0_dev16_lt d⟩
  sumStep d 3 ⟨k0_dev17 d, k0_dev17_lt d⟩ ⟨k0_dev18 d, k0_dev18_lt d⟩ ⟨k0_dev19 d, k0_dev19_lt d⟩ ⟨k0_dev20 d, k0_dev20_lt d⟩
  sumStep d 4 ⟨k0_dev21 d, k0_dev21_lt d⟩ ⟨k0_dev22 d, k0_dev22_lt d⟩ ⟨k0_dev23 d, k0_dev23_lt d⟩ ⟨k0_dev24 d, k0_dev24_lt d⟩
  sumStep d 5 ⟨k0_dev25 d, k0_dev25_lt d⟩ ⟨k0_dev26 d, k0_dev26_lt d⟩ ⟨k0_dev27 d, k0_dev27_lt d⟩ ⟨k0_dev28 d, k0_dev28_lt d⟩
  sumStep d 6 ⟨k0_dev29 d, k0_dev29_lt d⟩ ⟨k0_dev30 d, k0_dev30_lt d⟩ ⟨k0_dev31 d, k0_dev31_lt d⟩ ⟨k0_dev32 d, k0_dev32_lt d⟩
  gatherStep d 0 ⟨k0_dev33 d, k0_dev33_lt d⟩ ⟨k0_dev34 d, k0_dev34_lt d⟩
  creditPair ⟨k0_dev35 d, k0_dev35_lt d⟩ ⟨k0_dev36 d, k0_dev36_lt d⟩
  gatherStep d 1 ⟨k0_dev37 d, k0_dev37_lt d⟩ ⟨k0_dev38 d, k0_dev38_lt d⟩
  creditPair ⟨k0_dev39 d, k0_dev39_lt d⟩ ⟨k0_dev40 d, k0_dev40_lt d⟩
  gatherStep d 2 ⟨k0_dev41 d, k0_dev41_lt d⟩ ⟨k0_dev42 d, k0_dev42_lt d⟩
  creditPair ⟨k0_dev43 d, k0_dev43_lt d⟩ ⟨k0_dev44 d, k0_dev44_lt d⟩
  gatherStep d 3 ⟨k0_dev45 d, k0_dev45_lt d⟩ ⟨k0_dev46 d, k0_dev46_lt d⟩
  creditPair ⟨k0_dev47 d, k0_dev47_lt d⟩ ⟨k0_dev48 d, k0_dev48_lt d⟩
  gatherStep d 4 ⟨k0_dev49 d, k0_dev49_lt d⟩ ⟨k0_dev50 d, k0_dev50_lt d⟩
  creditPair ⟨k0_dev51 d, k0_dev51_lt d⟩ ⟨k0_dev52 d, k0_dev52_lt d⟩
  gatherStep d 5 ⟨k0_dev53 d, k0_dev53_lt d⟩ ⟨k0_dev54 d, k0_dev54_lt d⟩
  creditPair ⟨k0_dev55 d, k0_dev55_lt d⟩ ⟨k0_dev56 d, k0_dev56_lt d⟩
  gatherStep d 6 ⟨k0_dev57 d, k0_dev57_lt d⟩ ⟨k0_dev58 d, k0_dev58_lt d⟩

set_option maxRecDepth 100000 in
/-- The printed body at the grid's point is the chain of segments. -/
theorem body_eq : bodyAt0 (F := F) t0_0 = bodySegs := by
  chain_rfl

end Cert.KernelIdeal.Conv

end
-- ==== Proof.Sched.lean ====
/- The two rings as one protocol with a side: what each transfer carries, the cells, their rounds and payloads,
   what every core owes at each step, and the levels that order the waits. -/
module

public import proofs.«01_k».proof.Proof.Segments
public import Idealize.ShloMosaic.Lib.Pipeline.Launch
public import Idealize.ShloMosaic.Lib.Pipeline.Kit
public import Idealize.ShloMosaic.Lib.Tactic

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The algebra -/

/-- Rounds of the handshake cells, beside the counters of the local transfers. -/
abbrev UB : Type := URounds (GSem nD τ sig) Bool
abbrev UU : Type := UR sig nD τ × (UB × Counters)

/-- The assertions' algebra. -/
local notation "𝕄" => MT nD τ sig ℕ (Elt F) ℕ UU ℕ

abbrev EP : Emb (UR sig nD τ) (MT nD τ sig ℕ (Elt F) ℕ UU ℕ) := embL
/-- The rounds' library: the left half of the right factor. -/
def ER : Emb UB (MT nD τ sig ℕ (Elt F) ℕ UU ℕ) := (Emb.inl : Emb UB (UB × Counters)).trans embR
instance ER_landsIn : (ER : Emb UB 𝕄).LandsIn (upEmb : UEmb _ 𝕄) := by unfold ER embR; infer_instance
/-- The counters of the local transfers. -/
abbrev EC : UEmb Counters (MT nD τ sig ℕ (Elt F) ℕ UU ℕ) := countersEmb

/-! ## The two rings -/

set_option backward.proofsInPublic true in
def up (c : Dev nD) : Dev nD := ⟨(c.val + 1) % 8, Nat.mod_lt _ (by decide)⟩
set_option backward.proofsInPublic true in
def dn (c : Dev nD) : Dev nD := ⟨(c.val + 7) % 8, Nat.mod_lt _ (by decide)⟩

theorem dn_up (c : Dev nD) : dn (up c) = c := by revert c; decide
theorem up_dn (c : Dev nD) : up (dn c) = c := by revert c; decide

/-- Side `false` sends upwards, side `true` downwards: whom a device sends to, and whom it receives from. -/
abbrev tgt (s : Bool) (c : Dev nD) : Dev nD := match s with | false => up c | true => dn c
abbrev fr (s : Bool) (c : Dev nD) : Dev nD := match s with | false => dn c | true => up c

theorem fr_tgt (s : Bool) (c : Dev nD) : fr s (tgt s c) = c := by cases s; exacts [dn_up c, up_dn c]
theorem tgt_fr (s : Bool) (c : Dev nD) : tgt s (fr s c) = c := by cases s; exacts [up_dn c, dn_up c]

def shift (s : Bool) : Dev nD ≃ Dev nD := ⟨tgt s, fr s, fr_tgt s, tgt_fr s⟩

/-- The chunk a device sends at transfer `t`. -/
def ch (s : Bool) (c : Dev nD) (t : ℕ) : Fin 8 :=
  match s with
  | false => ⟨(c.val + 16 - t) % 8, Nat.mod_lt _ (by decide)⟩
  | true => ⟨(c.val + t) % 8, Nat.mod_lt _ (by decide)⟩

theorem ch_fr (s : Bool) (c : Dev nD) (t : ℕ) (ht : t < 14) : ch s (fr s c) t = ch s c (t + 1) := by
  have hc : c.val < 8 := c.isLt
  cases s <;> apply Fin.ext <;> simp only [ch, fr, up, dn] <;> omega

/-- The offsets of a chunk of one side's batches. -/
def off (s : Bool) (j : Fin 8) : Fin 3 → ℕ := ![if s then 2 else 0, 256 * j.val, 0]
theorem off_in (s : Bool) (j : Fin 8) : In (off s j) := by revert s j; decide

/-- A chunk of the result. -/
abbrev oAt (s : Bool) (j : Fin 8) : Memref sig .tc .hbm S2x256x1024 .f32 := oC (off s j) (off_in s j)
/-- The side's landing buffer. -/
abbrev rM (s : Bool) : Memref sig .tc .vmem S2x256x1024 .f32 := match s with | false => rA | true => rB

/-! ## What the transfers carry -/

/-- What device `c` sends at transfer `t`, from the devices' own block products `B`: the sum of the products of the
    `t + 1` devices the chunk has passed, and from the seventh on the finished sum. -/
def V (B : Bool → Dev nD → Fin 8 → Vec F S2x256x1024 .f32) (s : Bool) : ℕ → Dev nD → Vec F S2x256x1024 .f32
  | 0, c => B s c (ch s c 0)
  | t + 1, c => if t < 7 then shapeCast S2x256x1024 (addf (B s c (ch s c (t + 1))) (V B s t (fr s c)) : FVec F S2x256x1024 .f32) shapeCasts_S2x256x1024_S2x256x1024
      else V B s t (fr s c)

/-- A memref's elements held, with what they read as. -/
abbrev Held {sp : Space} {S : Shape} (m : Memref sig .tc sp S .f32) (c : Dev nD) (v : Vec F S .f32) : sProp 𝕄 :=
  owns (c : Thread nD τ) m fullShare v

/-! ## The cells -/

abbrev barS : Sem sig := (SemArray.scalar (sig.barrier 0 rfl) : Sems sig S_).sem
abbrev credS (s : Bool) : Sem sig := match s with | false => cc0_scratch14.sem | true => cc0_scratch15.sem
abbrev sendS (s : Bool) : DmaSem sig := match s with | false => cc0_scratch10.sem | true => cc0_scratch12.sem
abbrev recvS (s : Bool) : DmaSem sig := match s with | false => cc0_scratch11.sem | true => cc0_scratch13.sem

abbrev barCell (c : Dev nD) : GSem nD τ sig := ((c : Thread nD τ), .reg barS)
abbrev credCell (s : Bool) (c : Dev nD) : GSem nD τ sig := ((c : Thread nD τ), .reg (credS s))
abbrev sendCell (s : Bool) (c : Dev nD) : GSem nD τ sig := ((c : Thread nD τ), .dma (sendS s))
abbrev recvCell (s : Bool) (c : Dev nD) : GSem nD τ sig := ((c : Thread nD τ), .dma (recvS s))

/-- What a semaphore is for. -/
inductive Role
  | other
  | bar
  | cred (s : Bool)
  | send (s : Bool)
  | recv (s : Bool)
  deriving DecidableEq

def role (sm : SemLoc sig) : Role :=
  if sm = .reg barS then .bar
  else if sm = .reg (credS false) then .cred false
  else if sm = .reg (credS true) then .cred true
  else if sm = .dma (sendS false) then .send false
  else if sm = .dma (sendS true) then .send true
  else if sm = .dma (recvS false) then .recv false
  else if sm = .dma (recvS true) then .recv true
  else .other

@[simp] theorem role_bar : role (.reg barS) = .bar := by decide
@[simp] theorem role_cred (s : Bool) : role (.reg (credS s)) = .cred s := by revert s; decide
@[simp] theorem role_send (s : Bool) : role (.dma (sendS s)) = .send s := by revert s; decide
@[simp] theorem role_recv (s : Bool) : role (.dma (recvS s)) = .recv s := by revert s; decide

/-- The units a transfer credits. -/
abbrev N : ℕ := (rA : Memref sig .tc .vmem S2x256x1024 .f32).view.dmaCredit
theorem N_pos : 0 < N := View.dmaCredit_pos _ (by decide)

section Sched
variable (B : Bool → Dev nD → Fin 8 → Vec F S2x256x1024 .f32)

/-- A credit hands the sender the receiver's landing buffer, and that the receiver is at that round. -/
def credPay (s : Bool) (c : Dev nD) (r : ℕ) : sProp 𝕄 :=
  iprop((∃ v, Held (rM s) (tgt s c) v) ∗ reached ER (recvCell s (tgt s c)) r)
/-- A landing hands the receiver its buffer with what the sender had, and that the sender awaits the next credit. -/
def recvPay (s : Bool) (c : Dev nD) (r : ℕ) : sProp 𝕄 :=
  iprop(Held (rM s) c (V B s r (fr s c)) ∗ reached ER (credCell s (fr s c)) (r + 1))
/-- A sent chunk comes back as it was. -/
def sendPay (s : Bool) (c : Dev nD) (r : ℕ) : sProp 𝕄 := Held (oAt s (ch s c r)) c (V B s r c)

/-- How many rounds a cell runs. -/
def rounds : Role → ℕ
  | .other => 0
  | .bar => 1
  | _ => 14

/-- The rounds of the seven kinds of cell. -/
def Rd : Rounds.Schedule (GSem nD τ sig) Bool 𝕄 where
  duties g r := if g.1.2 = .tc ∧ r < rounds (role g.2) then (if role g.2 = .bar then Finset.univ else {false}) else ∅
  unitless _ := False
  amount g _ _ := match role g.2 with
    | .send _ => N
    | .recv _ => N
    | _ => 1
  payload g r _ := match role g.2 with
    | .cred s => credPay s g.1.1 r
    | .send s => sendPay B s g.1.1 r
    | .recv s => recvPay B s g.1.1 r
    | _ => iprop(emp)
  amount_pos g _ _ _ := by split <;> first | exact N_pos | exact Nat.one_pos

instance Rd_payload_storable (g : GSem nD τ sig) (r : ℕ) (d : Bool) :
    BI.Storable (upEmb : UEmb _ 𝕄) ((Rd (F := F) B).payload g r d) := by
  dsimp only [Rd]
  unfold credPay sendPay recvPay
  split <;> infer_instance

section
variable (s : Bool) (c : Dev nD) (r : ℕ) (d : Bool)

theorem duties_bar : (Rd (F := F) B).duties (barCell c) 0 = Finset.univ := by
  dsimp only [Rd]; rw [role_bar, if_pos ⟨rfl, Nat.one_pos⟩, if_pos rfl]
theorem duties_cred (hr : r < 14) : (Rd (F := F) B).duties (credCell s c) r = {false} := by
  dsimp only [Rd]; rw [role_cred, if_pos ⟨rfl, hr⟩, if_neg (fun h => by cases h)]
theorem duties_send (hr : r < 14) : (Rd (F := F) B).duties (sendCell s c) r = {false} := by
  dsimp only [Rd]; rw [role_send, if_pos ⟨rfl, hr⟩, if_neg (fun h => by cases h)]
theorem duties_recv (hr : r < 14) : (Rd (F := F) B).duties (recvCell s c) r = {false} := by
  dsimp only [Rd]; rw [role_recv, if_pos ⟨rfl, hr⟩, if_neg (fun h => by cases h)]
theorem duties_later (g : GSem nD τ sig) (n : ℕ) (hn : rounds (role g.2) ≤ n) : ∀ r, n ≤ r → (Rd (F := F) B).duties g r = ∅ :=
  fun r hr => by dsimp only [Rd]; rw [if_neg fun h => by omega]

theorem amount_bar : (Rd (F := F) B).amount (barCell c) r d = 1 := by dsimp only [Rd]; rw [role_bar]
theorem amount_cred : (Rd (F := F) B).amount (credCell s c) r d = 1 := by dsimp only [Rd]; rw [role_cred]
theorem amount_send : (Rd (F := F) B).amount (sendCell s c) r d = N := by dsimp only [Rd]; rw [role_send]
theorem amount_recv : (Rd (F := F) B).amount (recvCell s c) r d = N := by dsimp only [Rd]; rw [role_recv]

theorem expect_bar : (Rd (F := F) B).expect (barCell c) 0 = 2 := by
  unfold Schedule.expect Schedule.amountOf
  rw [duties_bar, Finset.sum_congr rfl fun d _ => amount_bar B c 0 d, Finset.sum_const, Finset.card_univ, Fintype.card_bool, smul_eq_mul]
theorem expect_cred (hr : r < 14) : (Rd (F := F) B).expect (credCell s c) r = 1 := by
  unfold Schedule.expect Schedule.amountOf; rw [duties_cred B s c r hr, Finset.sum_singleton, amount_cred]
theorem expect_send (hr : r < 14) : (Rd (F := F) B).expect (sendCell s c) r = N := by
  unfold Schedule.expect Schedule.amountOf; rw [duties_send B s c r hr, Finset.sum_singleton, amount_send]
theorem expect_recv (hr : r < 14) : (Rd (F := F) B).expect (recvCell s c) r = N := by
  unfold Schedule.expect Schedule.amountOf; rw [duties_recv B s c r hr, Finset.sum_singleton, amount_recv]

theorem payload_bar : (Rd (F := F) B).payload (barCell c) r d = iprop(emp) := by dsimp only [Rd]; rw [role_bar]
theorem payload_cred : (Rd (F := F) B).payload (credCell s c) r d = credPay s c r := by dsimp only [Rd]; rw [role_cred]
theorem payload_send : (Rd (F := F) B).payload (sendCell s c) r d = sendPay B s c r := by dsimp only [Rd]; rw [role_send]
theorem payload_recv : (Rd (F := F) B).payload (recvCell s c) r d = recvPay B s c r := by dsimp only [Rd]; rw [role_recv]

theorem rest_cred (hr : r < 14) : bigSep ((Rd (F := F) B).duties (credCell s c) r \ ∅) (fun d => (Rd (F := F) B).payload (credCell s c) r d) = credPay s c r := by
  rw [Finset.sdiff_empty, duties_cred B s c r hr, bigSep_singleton, payload_cred]
theorem rest_send (hr : r < 14) : bigSep ((Rd (F := F) B).duties (sendCell s c) r \ ∅) (fun d => (Rd (F := F) B).payload (sendCell s c) r d) = sendPay B s c r := by
  rw [Finset.sdiff_empty, duties_send B s c r hr, bigSep_singleton, payload_send]
theorem rest_recv (hr : r < 14) : bigSep ((Rd (F := F) B).duties (recvCell s c) r \ ∅) (fun d => (Rd (F := F) B).payload (recvCell s c) r d) = recvPay B s c r := by
  rw [Finset.sdiff_empty, duties_recv B s c r hr, bigSep_singleton, payload_recv]

end

end Sched

/-! ## What a core owes, and the levels

The unit of round `r` is counted at index `r + 1`; index zero is the local transfers' and the staging's. -/

/-- What transfer `t` owes its receivers, and credit `t` its senders. -/
def sendOwed (c : Dev nD) (t : ℕ) : CellTallies nD τ sig ℕ :=
  tallyAt (recvCell true (tgt true c)) (t + 1) N + tallyAt (recvCell false (tgt false c)) (t + 1) N
def credOwed (c : Dev nD) (t : ℕ) : CellTallies nD τ sig ℕ :=
  tallyAt (credCell true (fr true c)) (t + 1) 1 + tallyAt (credCell false (fr false c)) (t + 1) 1

/-- What is owed with `n` transfers and `k` credits to go. -/
def owedT (c : Dev nD) : ℕ → CellTallies nD τ sig ℕ
  | 0 => 0
  | n + 1 => owedT c n + sendOwed c (13 - n)
def owedC (c : Dev nD) : ℕ → CellTallies nD τ sig ℕ
  | 0 => 0
  | k + 1 => owedC c k + credOwed c (13 - k)

/-- What is owed before transfer `t` and credit `t'`. -/
def debt (c : Dev nD) (t t' : ℕ) : CellTallies nD τ sig ℕ := owedT c (14 - t) + owedC c (14 - t')

theorem shuffle₁ {A : Type} [AddCommMonoid A] (a b c d : A) : a + (b + c) + d = a + d + b + c := by
  rw [add_right_comm, ← add_assoc (a + d)]
theorem shuffle₂ {A : Type} [AddCommMonoid A] (a b c d : A) : a + (d + (b + c)) = a + d + b + c := by
  rw [← add_assoc, ← add_assoc]

theorem debt_send (c : Dev nD) (t t' : ℕ) (ht : t < 14) :
    debt c t t' = (debt c (t + 1) t' + tallyAt (recvCell true (tgt true c)) (t + 1) N) + tallyAt (recvCell false (tgt false c)) (t + 1) N := by
  unfold debt
  rw [show 14 - t = (14 - (t + 1)) + 1 by omega, owedT, show 13 - (14 - (t + 1)) = t by omega, sendOwed]
  exact shuffle₁ _ _ _ _
theorem debt_cred (c : Dev nD) (t t' : ℕ) (ht : t' < 14) :
    debt c t t' = (debt c t (t' + 1) + tallyAt (credCell true (fr true c)) (t' + 1) 1) + tallyAt (credCell false (fr false c)) (t' + 1) 1 := by
  unfold debt
  rw [show 14 - t' = (14 - (t' + 1)) + 1 by omega, owedC, show 13 - (14 - (t' + 1)) = t' by omega, credOwed]
  exact shuffle₂ _ _ _ _
theorem debt_done (c : Dev nD) : debt c 14 14 = 0 := by simp [debt, owedT, owedC]

/-- The levels: a local index lowest, the barrier next, then credit and landing of each round in turn. -/
def lv (g : GSem nD τ sig) (u : ℕ) : ℕ :=
  if u = 0 then 0 else match role g.2 with
    | .bar => 1
    | .cred _ => 2 * u
    | .recv _ => 2 * u + 1
    | _ => 0
def L (g : GSem nD τ sig) : Finset ℕ := if g.1.2 = .tc then Finset.range 16 else ∅

theorem L_of_ne (g : GSem nD τ sig) (h : g.1.2 ≠ .tc) : L g = ∅ := if_neg h
theorem L_tc (c : Dev nD) (sm : SemLoc sig) : L ((c : Thread nD τ), sm) = Finset.range 16 := if_pos rfl

theorem tallyAt_pos {g g' : GSem nD τ sig} {u u' : ℕ} {n : ℕ} (h : 0 < (tallyAt g u n : CellTallies nD τ sig ℕ) g' u') : g' = g ∧ u' = u := by
  rw [tallyAt_apply] at h
  by_contra hn
  rw [if_neg hn] at h; exact Nat.lt_irrefl 0 h

theorem add_pos' {O P : CellTallies nD τ sig ℕ} {g : GSem nD τ sig} {u : ℕ} (h : 0 < (O + P) g u) : 0 < O g u ∨ 0 < P g u := by
  rw [Pi.add_apply, Finsupp.add_apply] at h; omega

/-- Whatever is owed is owed to a landing of a later transfer or to a later credit. -/
theorem owedT_pos {c : Dev nD} {n : ℕ} (hn : n ≤ 14) {g : GSem nD τ sig} {u : ℕ} (h : 0 < owedT c n g u) :
    ∃ s d, g = recvCell s d ∧ 14 - n < u ∧ u ≤ 14 := by
  induction n with
  | zero => exact absurd h (Nat.lt_irrefl 0)
  | succ n ih =>
    rcases add_pos' h with h | h
    · obtain ⟨s, d, h1, h2, h3⟩ := ih (by omega) h; exact ⟨s, d, h1, by omega, h3⟩
    · rcases add_pos' h with h | h <;> obtain ⟨rfl, rfl⟩ := tallyAt_pos h
      · exact ⟨true, _, rfl, by omega, by omega⟩
      · exact ⟨false, _, rfl, by omega, by omega⟩
theorem owedC_pos {c : Dev nD} {n : ℕ} (hn : n ≤ 14) {g : GSem nD τ sig} {u : ℕ} (h : 0 < owedC c n g u) :
    ∃ s d, g = credCell s d ∧ 14 - n < u ∧ u ≤ 14 := by
  induction n with
  | zero => exact absurd h (Nat.lt_irrefl 0)
  | succ n ih =>
    rcases add_pos' h with h | h
    · obtain ⟨s, d, h1, h2, h3⟩ := ih (by omega) h; exact ⟨s, d, h1, by omega, h3⟩
    · rcases add_pos' h with h | h <;> obtain ⟨rfl, rfl⟩ := tallyAt_pos h
      · exact ⟨true, _, rfl, by omega, by omega⟩
      · exact ⟨false, _, rfl, by omega, by omega⟩

theorem debt_pos {c : Dev nD} {t t' : ℕ} {g : GSem nD τ sig} {u : ℕ} (h : 0 < debt c t t' g u) :
    (∃ d : Dev nD, ∃ sm, g = ((d : Thread nD τ), sm)) ∧ u ≤ 14 ∧ 0 < u ∧ (2 * t + 3 ≤ lv g u ∨ 2 * t' + 2 ≤ lv g u) := by
  rcases add_pos' h with h | h
  · obtain ⟨s, d, rfl, h2, h3⟩ := owedT_pos (by omega) h
    refine ⟨⟨d, _, rfl⟩, h3, by omega, .inl ?_⟩
    unfold lv; rw [if_neg (by omega), role_recv]; dsimp only; omega
  · obtain ⟨s, d, rfl, h2, h3⟩ := owedC_pos (by omega) h
    refine ⟨⟨d, _, rfl⟩, h3, by omega, .inr ?_⟩
    unfold lv; rw [if_neg (by omega), role_cred]; dsimp only; omega

/-- A core may wait for whatever lies below all it owes. -/
theorem mayWait_of (c : Dev nD) (sm : SemLoc sig) (u : ℕ) (hu : u < 16) (t t' : ℕ)
    (h1 : lv ((c : Thread nD τ), sm) u < 2 * t + 3) (h2 : lv ((c : Thread nD τ), sm) u < 2 * t' + 2) :
    (levAts L lv : sProp 𝕄) ⊢ MayWait (c : Thread nD τ) sm u (debt c t t') :=
  MayOwe.of_cut (L := L) (lev := lv) (lv ((c : Thread nD τ), sm) u)
    (fun p hp => by rw [Finset.mem_singleton.mp hp, L_tc]; exact Finset.mem_range.mpr hu)
    (fun g v hg => by
      obtain ⟨⟨d, sm', rfl⟩, h3, -⟩ := debt_pos hg
      rw [L_tc]; exact Finset.mem_range.mpr (by omega))
    (fun p hp => by rw [Finset.mem_singleton.mp hp])
    (fun g v hg => by
      obtain ⟨-, -, -, h⟩ := debt_pos hg
      omega)

/-- A local wait is always allowed. -/
theorem mayWaits_local (c : Dev nD) (t t' : ℕ) : (levAts L lv : sProp 𝕄) ⊢ Transfers.MayWaits (c : Thread nD τ) 0 (debt c t t') :=
  Transfers.MayWaits.intro fun sm => mayWait_of c sm 0 (by decide) t t' (by simp [lv]) (by simp [lv])

theorem mayWait_cred (s : Bool) (c : Dev nD) (t t' : ℕ) (ht : t < 14) (htt : t < t') :
    (levAts L lv : sProp 𝕄) ⊢ MayWait (c : Thread nD τ) (.reg (credS s)) (t + 1) (debt c t t') :=
  mayWait_of c _ _ (by omega) t t'
    (by unfold lv; rw [if_neg (by omega), role_cred]; dsimp only; omega) (by unfold lv; rw [if_neg (by omega), role_cred]; dsimp only; omega)
theorem mayWait_recv (s : Bool) (c : Dev nD) (t T : ℕ) (ht : t < 14) (htt : t < T) :
    (levAts L lv : sProp 𝕄) ⊢ MayWait (c : Thread nD τ) (.dma (recvS s)) (t + 1) (debt c T T) :=
  mayWait_of c _ _ (by omega) T T
    (by unfold lv; rw [if_neg (by omega), role_recv]; dsimp only; omega) (by unfold lv; rw [if_neg (by omega), role_recv]; dsimp only; omega)
theorem mayWait_send (s : Bool) (c : Dev nD) (t T T' : ℕ) (ht : t < 14) :
    (levAts L lv : sProp 𝕄) ⊢ MayWait (c : Thread nD τ) (.dma (sendS s)) (t + 1) (debt c T T') :=
  mayWait_of c _ _ (by omega) T T' (by unfold lv; rw [if_neg (by omega), role_send]; dsimp only; omega) (by unfold lv; rw [if_neg (by omega), role_send]; dsimp only; omega)
theorem mayWait_bar (c : Dev nD) :
    (levAts L lv : sProp 𝕄) ⊢ MayWait (c : Thread nD τ) (.reg barS) 1 (debt c 0 0) :=
  mayWait_of c _ _ (by omega) 0 0 (by unfold lv; rw [if_neg (by omega), role_bar]; dsimp only; omega) (by unfold lv; rw [if_neg (by omega), role_bar]; dsimp only; omega)

end Cert.KernelIdeal.Conv

end
-- ==== Proof.Steps.lean ====
/- The steps of the protocol, one lemma for each kind of operation, for either side and any round; from them the
   kernel's segments that touch the rings. -/
module

public import proofs.«01_k».proof.Proof.Sched

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

/-! ## The cells' records -/

/-- A device's cells under rounds. -/
abbrev Ck : Type := Option (Fin 3 × Bool)
abbrev csem : Ck → SemLoc sig
  | none => .reg barS
  | some (0, s) => .reg (credS s)
  | some (1, s) => .dma (sendS s)
  | some (2, s) => .dma (recvS s)
abbrev kcell (ck : Dev nD × Ck) : GSem nD τ sig := ((ck.1 : Thread nD τ), csem ck.2)

section
variable (B : Bool → Dev nD → Fin 8 → Vec F S2x256x1024 .f32) (K : Dev nD × Ck → ℕ)

/-- Every cell's invariant. -/
def recs : sProp 𝕄 := bigSep Finset.univ fun ck : Dev nD × Ck => cellInv ER (Rd B) (K ck) (kcell ck)

instance recs_persistent : BI.Persistent (recs B K) := by unfold recs; infer_instance

theorem recs_at (ck : Dev nD × Ck) : recs B K ⊢ cellInv ER (Rd B) (K ck) (kcell ck) := by
  unfold recs; exact bigSep_elim (Finset.mem_univ ck)

variable {α : Type} {Q : α → sProp (MT nD τ sig ℕ (Elt F) ℕ UU ℕ)} {W : Waits sig ℕ}

/-- A credit awaited: the receiver's buffer comes with it. -/
theorem credWait (s : Bool) (c : Dev nD) (t : ℕ) (ht : t < 14) (k' : ℕ) (hk' : k' = 1) {k : PUnit → P F α} :
    iprop(recs B K ∗ levAts L lv ∗ cred (tallyAt (credCell s c) (t + 1) 1) ∗ owes (c : Thread nD τ) (debt c t (t + 1)) W ∗ atPos ER (credCell s c) t ∅ 0)
      ⊢ iprop(((∃ W', owes (c : Thread nD τ) (debt c t (t + 1)) W') ∗ atPos ER (credCell s c) (t + 1) ∅ 0 ∗ reached ER (credCell s c) (t + 1) ∗ credPay s c t
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait (credS s) k') k) Q) := by
  subst hk'
  iintro ⟨#HR, #Hlev, Hc, HO, Hat⟩ Hk
  iapply (Rounds.wp_wait_rest_token 𝒱₀ ER (Rd B) (c : Thread nD τ) none (κ := K (c, some (0, s)))
      (wpE_semWait_eq 𝒱₀ (c : Thread nD τ) none Set.univ) (Set.mem_univ _) (t + 1) (O := debt c t (t + 1)) (W := W) (R := t) (m := 0) (T := ∅)
      (by rw [Nat.zero_add, expect_cred B s c t ht])) $$ [Hc HO Hat]
  · isplitr; · iapply (recs_at B K (c, some (0, s))); iexact HR
    isplitl [Hc]; · iexact Hc
    isplitl [HO]; · iexact HO
    isplitr; · iapply (mayWait_cred s c t (t + 1) ht (by omega)); iexact Hlev
    iexact Hat
  iintro ⟨HO, Hat, Hr, Hpay⟩
  ihave Hp := (Entails.of_eq (rest_cred B s c t ht)) $$ Hpay
  iapply Hk
  isplitl [HO]; · iexists _; iexact HO
  isplitl [Hat]; · iexact Hat
  isplitl [Hr]; · iexact Hr
  iexact Hp

/-- A chunk sent: the landing gets the buffer the credit brought and the promise of the next credit's wait. -/
theorem sendOne (s : Bool) (c : Dev nD) (t : ℕ) (ht : t < 14) {O : CellTallies nD τ sig ℕ}
    {src : Memref sig .tc .hbm S2x256x1024 .f32} (hs : src = oAt s (ch s c t)) {hsc}
    {hsrc : src.view.WordExact} {hdst : (rM s).view.WordExact} {hsem : DmaTarget.Typed .hbm (.dma (recvS s)) (.remote (Dev.tc (tgt s c)) (rM s) (.dma (sendS s)) hsc)}
    {k : PUnit → P F α} :
    iprop(recs B K ∗ Held (oAt s (ch s c t)) c (V B s t c) ∗ credPay s c t ∗ reached ER (credCell s c) (t + 1)
        ∗ owes (c : Thread nD τ) (O + tallyAt (recvCell s (tgt s c)) (t + 1) N) W
        ∗ dutyTok ER (sendCell s c) t false ∗ reached ER (sendCell s c) t ∗ dutyTok ER (recvCell s (tgt s c)) t false)
      ⊢ iprop(((∃ W', owes (c : Thread nD τ) O W') ∗ cred (tallyAt (sendCell s c) (t + 1) N)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc (tgt s c)) (rM s) (.dma (sendS s)) hsc) (.dma (recvS s)) hsrc hdst hsem) k) Q) := by
  subst hs
  unfold credPay Held owns
  iintro ⟨#HR, ⟨%fs, %hfs, Hsrc⟩, ⟨⟨%v, %fd, -, Hdst⟩, Hrv⟩, Hrc, HO, HtS, HrS, HtV⟩ Hk
  iapply (Rounds.wp_send_pointsTo_with (F := reached ER (credCell s c) (t + 1)) (r₁ := t) (r₂ := t) (d₁ := false) (d₂ := false)
      (κ₁ := K (c, some (1, s))) (κ₂ := K (tgt s c, some (2, s))) 𝒱₀ ER (Rd B) (c : Thread nD τ) none
      (by rw [duties_send B s c t ht]; exact Finset.mem_singleton_self _) (by rw [duties_recv B s (tgt s c) t ht]; exact Finset.mem_singleton_self _)
      (t + 1) (t + 1) N (by cases s <;> rfl) (amount_send B s c t false) (amount_recv B s (tgt s c) t false) O rfl
      (by rw [payload_send]; unfold sendPay Held owns; iintro H; iexists fs; isplitr; · (ipureintro; exact hfs)
          iexact H)
      (by rw [payload_recv]; unfold recvPay Held owns
          iintro ⟨H, Hr⟩
          isplitl [H]
          · iexists ((rM s).view.write (Elt F) fd ((oAt s (ch s c t)).view.read (Elt F) fs) Finset.univ)
            isplitr
            · ipureintro
              rw [fr_tgt, ← hfs]
              exact View.read_write_univ _ _
            iexact H
          · rw [fr_tgt]; iexact Hr))
    $$ [Hsrc Hdst Hrv Hrc HO HtS HrS HtV]
  · isplitr; · iapply (recs_at B K (c, some (1, s))); iexact HR
    isplitr; · iapply (recs_at B K (tgt s c, some (2, s))); iexact HR
    isplitl [Hsrc]; · iexact Hsrc
    isplitl [Hdst Hrc]
    · isplitl [Hdst]; · iexact Hdst
      iexact Hrc
    isplitl [HO]; · iexact HO
    isplitl [HtS]; · iexact HtS
    isplitl [HrS]; · iexact HrS
    isplitl [HtV]; · iexact HtV
    iexact Hrv
  iintro ⟨HcS, HO⟩
  iapply Hk
  isplitl [HO]; · iexists _; iexact HO
  iexact HcS

/-- A send awaited: the chunk is back. -/
theorem sendWait (s : Bool) (c : Dev nD) (t : ℕ) (ht : t < 14) (T T' : ℕ) {sp sp' : Space} {S S' : Shape} {e e' : EltTy}
    {src : Memref sig .tc sp S e} {dst : Memref sig .tc sp' S' e'} (hN : dst.view.dmaCredit = N)
    {hsrc : src.view.WordExact} {hdst : dst.view.WordExact} {k : PUnit → P F α} :
    iprop(recs B K ∗ levAts L lv ∗ cred (tallyAt (sendCell s c) (t + 1) N) ∗ owes (c : Thread nD τ) (debt c T T') W ∗ atPos ER (sendCell s c) t ∅ 0)
      ⊢ iprop(((∃ W', owes (c : Thread nD τ) (debt c T T') W') ∗ atPos ER (sendCell s c) (t + 1) ∅ 0 ∗ reached ER (sendCell s c) (t + 1)
              ∗ Held (oAt s (ch s c t)) c (V B s t c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s) src dst hsrc hdst) k) Q) := by
  iintro ⟨#HR, #Hlev, Hc, HO, Hat⟩ Hk
  iapply (Rounds.wp_wait_rest_token 𝒱₀ ER (Rd B) (c : Thread nD τ) none (κ := K (c, some (1, s)))
      (wpE_waitDma2_eq 𝒱₀ (c : Thread nD τ) none Set.univ) (Set.mem_univ _) (t + 1) (O := debt c T T') (W := W) (R := t) (m := 0) (T := ∅)
      (by rw [Nat.zero_add, expect_send B s c t ht]; exact hN)) $$ [Hc HO Hat]
  · isplitr; · iapply (recs_at B K (c, some (1, s))); iexact HR
    isplitl [Hc]; · rw [hN]; iexact Hc
    isplitl [HO]; · iexact HO
    isplitr; · iapply (mayWait_send s c t T T' ht); iexact Hlev
    iexact Hat
  iintro ⟨HO, Hat, Hr, Hpay⟩
  ihave Hp := (Entails.of_eq (rest_send B s c t ht)) $$ Hpay
  unfold sendPay
  iapply Hk
  isplitl [HO]; · iexists _; iexact HO
  isplitl [Hat]; · iexact Hat
  isplitl [Hr]; · iexact Hr
  iexact Hp

/-- A landing awaited: what the sender had is in the landing buffer. -/
theorem recvWait (s : Bool) (c : Dev nD) (t : ℕ) (ht : t < 14) {sp sp' : Space} {S S' : Shape} {e e' : EltTy}
    {src : Memref sig .tc sp S e} {dst : Memref sig .tc sp' S' e'} (hN : dst.view.dmaCredit = N)
    {hsrc : src.view.WordExact} {hdst : dst.view.WordExact} {k : PUnit → P F α} :
    iprop(recs B K ∗ levAts L lv ∗ cred (tallyAt (recvCell s c) (t + 1) N) ∗ owes (c : Thread nD τ) (debt c (t + 1) (t + 1)) W ∗ atPos ER (recvCell s c) t ∅ 0)
      ⊢ iprop(((∃ W', owes (c : Thread nD τ) (debt c (t + 1) (t + 1)) W') ∗ atPos ER (recvCell s c) (t + 1) ∅ 0 ∗ reached ER (recvCell s c) (t + 1)
              ∗ Held (rM s) c (V B s t (fr s c)) ∗ reached ER (credCell s (fr s c)) (t + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) src dst hsrc hdst) k) Q) := by
  iintro ⟨#HR, #Hlev, Hc, HO, Hat⟩ Hk
  iapply (Rounds.wp_wait_rest_token 𝒱₀ ER (Rd B) (c : Thread nD τ) none (κ := K (c, some (2, s)))
      (wpE_waitDma2_eq 𝒱₀ (c : Thread nD τ) none Set.univ) (Set.mem_univ _) (t + 1) (O := debt c (t + 1) (t + 1)) (W := W) (R := t) (m := 0) (T := ∅)
      (by rw [Nat.zero_add, expect_recv B s c t ht]; exact hN)) $$ [Hc HO Hat]
  · isplitr; · iapply (recs_at B K (c, some (2, s))); iexact HR
    isplitl [Hc]; · rw [hN]; iexact Hc
    isplitl [HO]; · iexact HO
    isplitr; · iapply (mayWait_recv s c t (t + 1) ht (by omega)); iexact Hlev
    iexact Hat
  iintro ⟨HO, Hat, Hr, Hpay⟩
  ihave Hp := (Entails.of_eq (rest_recv B s c t ht)) $$ Hpay
  unfold recvPay
  icases Hp with ⟨Hp, Hp'⟩
  iapply Hk
  isplitl [HO]; · iexists _; iexact HO
  isplitl [Hat]; · iexact Hat
  isplitl [Hr]; · iexact Hr
  isplitl [Hp]; · iexact Hp
  iexact Hp'

/-- A credit given: the landing buffer goes to the sender. -/
theorem credSignal (s : Bool) (c : Dev nD) (t : ℕ) (ht : t < 14) {O : CellTallies nD τ sig ℕ} (k' : ℕ) (hk' : k' = 1)
    {k : PUnit → P F α} :
    iprop(recs B K ∗ owes (c : Thread nD τ) (O + tallyAt (credCell s (fr s c)) (t + 1) 1) W ∗ dutyTok ER (credCell s (fr s c)) t false
        ∗ (∃ v, Held (rM s) c v) ∗ reached ER (recvCell s c) t ∗ reached ER (credCell s (fr s c)) t)
      ⊢ iprop(((∃ W', owes (c : Thread nD τ) O W') -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc (fr s c)) (credS s) k') k) Q) := by
  subst hk'
  iintro ⟨#HR, HO, Ht, Hb, Hr, Hr'⟩ Hk
  iapply (Rounds.wp_signal 𝒱₀ ER (Rd B) (c : Thread nD τ) none (dst := (fr s c : Thread nD τ)) (κ := K (fr s c, some (0, s)))
      (d := false) (r := t) (by rw [duties_cred B s (fr s c) t ht]; exact Finset.mem_singleton_self _) (amount_cred B s (fr s c) t false) (t + 1) O rfl)
    $$ [HO Ht Hb Hr Hr']
  · isplitr; · iapply (recs_at B K (fr s c, some (0, s))); iexact HR
    isplitl [HO]; · iexact HO
    isplitl [Ht]; · iexact Ht
    isplitl [Hb Hr]
    · rw [payload_cred]; unfold credPay; rw [tgt_fr]
      isplitl [Hb]; · iexact Hb
      iexact Hr
    iexact Hr'
  iintro HO
  iapply Hk; iexists _; iexact HO

end

end Cert.KernelIdeal.Conv

end
-- ==== Proof.Half.lean ====
/- One half of a chunk, run locally: the chunk and the rows before it fetched, filtered, multiplied by the weights and
   stored to the result. What it leaves is stated as a function of the input, the filter and the weights. -/
module

public import proofs.«01_k».proof.Proof.Steps

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig ℕ (Elt F) ℕ UU ℕ

/-! ## The values -/

/-- An index by its coordinates. -/
def ix2 {d : Fin 2 → ℕ} (a : Fin (d 0)) (b : Fin (d 1)) : (⟨2, d⟩ : Shape).Idx := fun | 0 => a | 1 => b
def ix3 {d : Fin 3 → ℕ} (a : Fin (d 0)) (b : Fin (d 1)) (c : Fin (d 2)) : (⟨3, d⟩ : Shape).Idx := fun | 0 => a | 1 => b | 2 => c

/-- The rows before a chunk followed by the chunk. -/
def stacked (h : Vec F S2x8x1024 .f32) (x : Vec F S2x256x1024 .f32) : Vec F S2x264x1024 .f32 := fun i =>
  if hi : (i 1).val < 8 then h (ix3 (d := ![2, 8, 1024]) (i 0) ⟨(i 1).val, hi⟩ (i 2))
  else x (ix3 (d := ![2, 256, 1024]) (i 0) ⟨(i 1).val - 8, by have : (i 1).val < 264 := (i 1).isLt; show _ < 256; omega⟩ (i 2))

/-- The window of 256 rows that starts at row `n` of the stack. -/
def window (n : ℕ) (hn : n ≤ 8) (f : Vec F S2x264x1024 .f32) : Vec F S2x256x1024 .f32 := fun j =>
  f (ix3 (d := ![2, 264, 1024]) (j 0) ⟨n + (j 1).val, by have : (j 1).val < 256 := (j 1).isLt; show _ < 264; omega⟩ (j 2))

/-- One row of the filter. -/
def krow (r : Fin 4) (k : Vec F S4x1024 .f32) : Vec F S1x1024 .f32 := fun j => k (ix2 (d := ![4, 1024]) r (j 1))

/-- The activated chunk of a stack. -/
def actOf (f : Vec F S2x264x1024 .f32) (k : Vec F S4x1024 .f32) : FVec F S2x256x1024 .f32 :=
  act (window 8 (by decide) f) (window 7 (by decide) f) (window 6 (by decide) f) (window 5 (by decide) f) (krow 3 k) (krow 2 k) (krow 1 k) (krow 0 k)

/-- The block product: either batch's activated rows times the weights. -/
def blkOf (w : BitVec 32) (h : Vec F S2x8x1024 .f32) (x : Vec F S2x256x1024 .f32) (k : Vec F S4x1024 .f32) (wp : Vec F S1024x1024 .f32) :
    Vec F S2x256x1024 .f32 := fun i =>
  if (i 0).val = 0 then prod0 (actOf (stacked (maskHalo w h) x) k) wp (ix3 (d := ![1, 256, 1024]) (0 : Fin 1) (i 1) (i 2))
  else prod1 (actOf (stacked (maskHalo w h) x) k) wp (ix3 (d := ![1, 256, 1024]) (0 : Fin 1) (i 1) (i 2))

/-! ## The fetch -/

/-- The two parts of the input buffer. -/
def parts : Bool → Rect S2x264x1024
  | false => Rect.unit (s := S2x264x1024) ![0, 0, 0] S2x8x1024.size inb_S2x264x1024_S2x8x1024_0_0_0
  | true => Rect.unit (s := S2x264x1024) ![0, 8, 0] S2x256x1024.size inb_S2x264x1024_S2x256x1024_0_8_0

theorem parts_stride (t : Bool) (a) : (parts t).stride a = 1 := by cases t <;> rfl

theorem parts_lo (i : S2x264x1024.Idx) : i ∈ (parts false).set ↔ (i 1).val < 8 := by
  unfold parts; rw [Rect.mem_set_unit]
  constructor
  · intro h; exact (h 1).2
  · intro h a
    match a with
    | 0 => exact ⟨Nat.zero_le _, (i 0).isLt⟩
    | 1 => exact ⟨Nat.zero_le _, h⟩
    | 2 => exact ⟨Nat.zero_le _, (i 2).isLt⟩
theorem parts_hi (i : S2x264x1024.Idx) : i ∈ (parts true).set ↔ 8 ≤ (i 1).val := by
  unfold parts; rw [Rect.mem_set_unit]
  constructor
  · intro h; exact (h 1).1
  · intro h a
    match a with
    | 0 => exact ⟨Nat.zero_le _, (i 0).isLt⟩
    | 1 => exact ⟨h, (i 1).isLt⟩
    | 2 => exact ⟨Nat.zero_le _, (i 2).isLt⟩

theorem parts_disj (t t' : Bool) (h : t ≠ t') : Disjoint (parts t).set (parts t').set := by
  have key : Disjoint (parts false).set (parts true).set := Finset.disjoint_left.mpr fun i h1 h2 => by
    rw [parts_lo] at h1; rw [parts_hi] at h2; omega
  match t, t' with
  | false, true => exact key
  | true, false => exact key.symm
  | false, false => exact absurd rfl h
  | true, true => exact absurd rfl h
theorem parts_cover : (Finset.univ : Finset Bool).biUnion (fun t => (parts t).set) = Finset.univ := by
  ext i
  simp only [Finset.mem_biUnion, Finset.mem_univ, true_and, iff_true]
  by_cases h : (i 1).val < 8
  · exact ⟨false, (parts_lo i).mpr h⟩
  · exact ⟨true, (parts_hi i).mpr (by omega)⟩

theorem stacked_lo (h : Vec F S2x8x1024 .f32) (x : Vec F S2x256x1024 .f32) : (fun j => stacked h x ((parts false).emb j)) = h := by
  funext j
  have hj : (((parts false).emb j) 1).val < 8 := by
    have : (j 1).val < 8 := (j 1).isLt
    rw [Rect.emb_apply]; show 0 + 1 * (j 1).val < 8; omega
  refine (dif_pos hj).trans (congrArg h (funext fun a => ?_))
  match a with
  | 0 => exact Fin.ext (by show 0 + 1 * (j 0).val = (j 0).val; omega)
  | 1 => exact Fin.ext (by show 0 + 1 * (j 1).val = (j 1).val; omega)
  | 2 => exact Fin.ext (by show 0 + 1 * (j 2).val = (j 2).val; omega)
theorem stacked_hi (h : Vec F S2x8x1024 .f32) (x : Vec F S2x256x1024 .f32) : (fun j => stacked h x ((parts true).emb j)) = x := by
  funext j
  have hj : ¬ (((parts true).emb j) 1).val < 8 := by
    rw [Rect.emb_apply]; show ¬ 8 + 1 * (j 1).val < 8; omega
  refine (dif_neg hj).trans (congrArg x (funext fun a => ?_))
  match a with
  | 0 => exact Fin.ext (by show 0 + 1 * (j 0).val = (j 0).val; omega)
  | 1 => exact Fin.ext (by show 8 + 1 * (j 1).val - 8 = (j 1).val; omega)
  | 2 => exact Fin.ext (by show 0 + 1 * (j 2).val = (j 2).val; omega)

theorem bigSep_bool (Φ : Bool → sProp (MT nD τ sig ℕ (Elt F) ℕ UU ℕ)) : bigSep Finset.univ Φ = iprop(Φ false ∗ Φ true) :=
  bigSep_univ_eq_bigSepL [false, true] (by decide) (by decide) Φ

theorem xb_split (c : Dev nD) (v : Vec F S2x264x1024 .f32) :
    Held xb c v ⊢ iprop((∃ h, Held xb0 c h) ∗ (∃ x, Held xb8 c x)) := by
  refine (owns_rects (c : Thread nD τ) xb fullShare parts parts_stride parts_disj parts_cover v).trans ?_
  rw [bigSep_bool]
  iintro ⟨H0, H1⟩
  isplitl [H0]
  · iexists _; iexact H0
  · iexists _; iexact H1
theorem xb_join (c : Dev nD) (h : Vec F S2x8x1024 .f32) (x : Vec F S2x256x1024 .f32) :
    iprop(Held xb0 c h ∗ Held xb8 c x) ⊢ Held xb c (stacked h x) := by
  refine BIBase.Entails.trans ?_ (owns_of_rects (c : Thread nD τ) xb fullShare parts parts_stride parts_disj parts_cover (stacked h x))
  rw [bigSep_bool, stacked_lo, stacked_hi]
  exact .rfl

section
variable {α : Type} {Q : α → sProp (MT nD τ sig ℕ (Elt F) ℕ UU ℕ)} {W : Waits sig ℕ} {O : CellTallies nD τ sig ℕ} (c : Dev nD)

/-- A local copy started. -/
theorem copyStart {sp sp' : Space} {S : Shape} {src : Memref sig .tc sp S .f32} {dst : Memref sig .tc sp' S .f32} {q : DmaSem sig}
    {hsrc : src.view.WordExact} {hdst : dst.view.WordExact} {hsem : DmaTarget.Typed (nD := nD) sp (.dma q) (DmaTarget.here (p := (.tc : Proc τ)) dst)}
    (hpos : 0 < dst.view.dmaCredit) {k : PUnit → P F α} {p : PosShare TreeShare} {fs : Buf (Elt F) (src.view.loc (c : Thread nD τ))} :
    iprop((src.view.loc (c : Thread nD τ) ↦[src.view.set]{p} fs) ∗ (∃ v, Held dst c v) ∗ semVal ((c : Thread nD τ), SemLoc.dma q) 0)
      ⊢ iprop(((∃ fd, Transfers.Flight EC (c : Thread nD τ) (.dma q) 0 dst.view.dmaCredit
              iprop((dst.view.loc (c : Thread nD τ) ↦[dst.view.set]{fullShare} (dst.view.write (Elt F) fd (src.view.read (Elt F) fs) Finset.univ))
                ∗ (src.view.loc (c : Thread nD τ) ↦[src.view.set]{p} fs)))
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) hsrc hdst hsem) k) Q) := by
  unfold Held owns
  iintro ⟨Hs, ⟨%v, %fd, -, Hd⟩, Hv⟩ Hk
  iapply (Transfers.wp_dmaLocal EC 𝒱₀ (c : Thread nD τ) none (sm := .dma q) (0 : ℕ) dst.view.dmaCredit rfl hpos (Finset.Subset.refl _)) $$ [Hs Hd Hv]
  · isplitl [Hs]; · iexact Hs
    isplitl [Hd]; · iexact Hd
    iexact Hv
  iintro H
  iapply Hk; iexists fd; iexact H

/-- It is waited for: the destination reads as the source. -/
theorem copyWait {sp sp' sp'' : Space} {S : Shape} {src' : Memref sig .tc sp'' S .f32} {src : Memref sig .tc sp S .f32} {dst : Memref sig .tc sp' S .f32} {q : DmaSem sig}
    {hsrc : src'.view.WordExact} {hdst : dst.view.WordExact} {k : PUnit → P F α} {p : PosShare TreeShare} {fs : Buf (Elt F) (src.view.loc (c : Thread nD τ))} :
    iprop((∃ fd, Transfers.Flight EC (c : Thread nD τ) (.dma q) 0 dst.view.dmaCredit
              iprop((dst.view.loc (c : Thread nD τ) ↦[dst.view.set]{fullShare} (dst.view.write (Elt F) fd (src.view.read (Elt F) fs) Finset.univ))
                ∗ (src.view.loc (c : Thread nD τ) ↦[src.view.set]{p} fs)))
        ∗ owes (c : Thread nD τ) O W ∗ Transfers.MayWaits (c : Thread nD τ) 0 O)
      ⊢ iprop(((Held dst c (src.view.read (Elt F) fs) ∗ (src.view.loc (c : Thread nD τ) ↦[src.view.set]{p} fs)
              ∗ semVal ((c : Thread nD τ), SemLoc.dma q) 0 ∗ (∃ W', owes (c : Thread nD τ) O W'))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src' dst hsrc hdst) k) Q) := by
  unfold Held owns
  iintro ⟨⟨%fd, HF⟩, HO, Hm⟩ Hk
  iapply (Transfers.wp_waitLocalO EC 𝒱₀ (c : Thread nD τ) none (0 : ℕ) rfl) $$ [HF HO Hm]
  · isplitl [HF]; · iexact HF
    isplitl [HO]; · iexact HO
    iapply (Transfers.MayWaits.elim (SemLoc.dma q)) $$ Hm
  iintro ⟨⟨Hd, Hs⟩, Hv, HO⟩
  iapply Hk
  isplitl [Hd]
  · iexists _; isplitr
    swap; · iexact Hd
    ipureintro; exact View.read_write_univ _ _
  isplitl [Hs]; · iexact Hs
  isplitl [Hv]; · iexact Hv
  iexists _; iexact HO

/-- The fetch of a chunk and of the rows before it. -/
theorem fetchHalf_spec (o : Fin 3 → ℕ) (ho : In o) (h : Fin 3 → ℕ) (hh : InH h) {p p' : PosShare TreeShare}
    (X : Buf (Elt F) (xM.view.loc (c : Thread nD τ))) :
    iprop((xM.view.loc (c : Thread nD τ) ↦{p} X) ∗ (xM.view.loc (c : Thread nD τ) ↦{p'} X) ∗ (∃ v, Held xb c v)
        ∗ semVal ((c : Thread nD τ), SemLoc.dma cc0_scratch7.sem) 0 ∗ semVal ((c : Thread nD τ), SemLoc.dma cc0_scratch8.sem) 0
        ∗ owes (c : Thread nD τ) O W ∗ Transfers.MayWaits (c : Thread nD τ) 0 O)
      ⊢ wp frame (wpE (defs₀ (F := F)) 𝒱₀ (c : Thread nD τ) none) Set.univ (fetchHalf o ho h hh) (fun _ =>
        iprop((xM.view.loc (c : Thread nD τ) ↦{p} X) ∗ (xM.view.loc (c : Thread nD τ) ↦{p'} X)
          ∗ Held xb c (stacked ((xH h hh).view.read (Elt F) X) ((xC o ho).view.read (Elt F) X))
          ∗ semVal ((c : Thread nD τ), SemLoc.dma cc0_scratch7.sem) 0 ∗ semVal ((c : Thread nD τ), SemLoc.dma cc0_scratch8.sem) 0
          ∗ (∃ W', owes (c : Thread nD τ) O W'))) := by
  iintro ⟨HX, HX', ⟨%v, Hxb⟩, H7, H8, HO, #Hm⟩
  unfold fetchHalf
  simp only [Prog.lift, Prog.bind_op, Prog.bind_ret]
  ihave Hp := (xb_split c v) $$ Hxb
  icases Hp with ⟨Hb0, Hb8⟩
  ihave Ha := ((pointsTo_split_subset (Finset.subset_univ (xC o ho).view.set)).1) $$ HX
  icases Ha with ⟨HC, HX⟩
  ihave Ha := ((pointsTo_split_subset (Finset.subset_univ (xH h hh).view.set)).1) $$ HX'
  icases Ha with ⟨HH, HX'⟩
  iapply (copyStart c (View.dmaCredit_pos _ (by decide))) $$ [HC Hb8 H7]
  · isplitl [HC]; · iexact HC
    isplitl [Hb8]; · iexact Hb8
    iexact H7
  iintro Hf7
  iapply (copyStart c (View.dmaCredit_pos _ (by decide))) $$ [HH Hb0 H8]
  · isplitl [HH]; · iexact HH
    isplitl [Hb0]; · iexact Hb0
    iexact H8
  iintro Hf8
  iapply (copyWait c) $$ [Hf7 HO]
  · isplitl [Hf7]; · iexact Hf7
    isplitl [HO]; · iexact HO
    iexact Hm
  iintro ⟨Hb8, HC, H7, ⟨%W', HO⟩⟩
  iapply (copyWait c) $$ [Hf8 HO]
  · isplitl [Hf8]; · iexact Hf8
    isplitl [HO]; · iexact HO
    iexact Hm
  iintro ⟨Hb0, HH, H8, HO⟩
  rw [wp_ret]; imodintro
  isplitl [HC HX]
  · iapply ((pointsTo_split_subset (Finset.subset_univ (xC o ho).view.set)).2)
    isplitl [HC] <;> iassumption
  isplitl [HH HX']
  · iapply ((pointsTo_split_subset (Finset.subset_univ (xH h hh).view.set)).2)
    isplitl [HH] <;> iassumption
  isplitl [Hb0 Hb8]
  · iapply (xb_join c)
    isplitl [Hb0] <;> iassumption
  isplitl [H7]; · iexact H7
  isplitl [H8]; · iexact H8
  iexact HO

end

end Cert.KernelIdeal.Conv

end
-- ==== Proof.Block.lean ====
/- The block product, from the fetched rows to the output buffer. -/
module

public import proofs.«01_k».proof.Proof.Half
public import Idealize.ShloMosaic.Lib.WritesUnit

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig ℕ (Elt F) ℕ UU ℕ

variable (c : Dev nD)

/-- A window of the input buffer. -/
theorem readAt_window (n : ℕ) (hn : n ≤ 8) (hi : ∀ a, (![0, n, 0] : Fin 3 → ℕ) a + S2x256x1024.size a ≤ S2x264x1024.size a)
    (f : Buf (Elt F) (xb.view.loc (c : Thread nD τ))) :
    xb.view.readAt (Elt F) (Rect.unit (s := S2x264x1024) ![0, n, 0] S2x256x1024.size hi).toLoadRect f = window n hn (xb.view.read (Elt F) f) := by
  funext j
  rw [View.readAt_apply]
  refine congrArg (xb.view.read (Elt F) f) (funext fun a => ?_)
  match a with
  | 0 => exact Fin.ext (by show 0 + 1 * (j 0).val = (j 0).val; omega)
  | 1 => exact Fin.ext (by show n + 1 * (j 1).val = n + (j 1).val; omega)
  | 2 => exact Fin.ext (by show 0 + 1 * (j 2).val = (j 2).val; omega)

/-- A row of the filter. -/
theorem readAt_krow (r : ℕ) (hr : r < 4) (hi : ∀ a, (![r, 0] : Fin 2 → ℕ) a + S1x1024.size a ≤ S4x1024.size a)
    (f : Buf (Elt F) (kM.view.loc (c : Thread nD τ))) :
    kM.view.readAt (Elt F) (Rect.unit (s := S4x1024) ![r, 0] S1x1024.size hi).toLoadRect f = krow ⟨r, hr⟩ (kM.view.read (Elt F) f) := by
  funext j
  rw [View.readAt_apply]
  refine congrArg (kM.view.read (Elt F) f) (funext fun a => ?_)
  match a with
  | 0 => exact Fin.ext (by have h : (j 0).val < 1 := (j 0).isLt; show r + 1 * (j 0).val = r; omega)
  | 1 => exact Fin.ext (by show 0 + 1 * (j 1).val = (j 1).val; omega)

/-- The whole of the weights. -/
theorem readAt_weights (f : Buf (Elt F) (wM.view.loc (c : Thread nD τ))) :
    wM.view.readAt (Elt F) (Rect.unit (s := S1024x1024) ![0, 0] S1024x1024.size inb_S1024x1024_S1024x1024_0_0).toLoadRect f = wM.view.read (Elt F) f := by
  funext j
  rw [View.readAt_apply]
  refine congrArg (wM.view.read (Elt F) f) (funext fun a => ?_)
  match a with
  | 0 => exact Fin.ext (by show 0 + 1 * (j 0).val = (j 0).val; omega)
  | 1 => exact Fin.ext (by show 0 + 1 * (j 1).val = (j 1).val; omega)

/-- The rows before the chunk read back. -/
theorem readAt_halo (f : Buf (Elt F) (xb.view.loc (c : Thread nD τ))) (h : Vec F S2x8x1024 .f32) (x : Vec F S2x256x1024 .f32)
    (hf : xb.view.read (Elt F) f = stacked h x) :
    xb.view.readAt (Elt F) (Rect.unit (s := S2x264x1024) ![0, 0, 0] S2x8x1024.size inb_S2x264x1024_S2x8x1024_0_0_0).toLoadRect f = h := by
  refine Eq.trans ?_ (stacked_lo h x)
  funext j
  rw [View.readAt_apply, hf]
  rfl

/-- The rows before the chunk rewritten. -/
theorem stacked_write (f : Buf (Elt F) (xb.view.loc (c : Thread nD τ))) (h h' : Vec F S2x8x1024 .f32) (x : Vec F S2x256x1024 .f32)
    (hf : xb.view.read (Elt F) f = stacked h x) :
    xb.view.read (Elt F) (xb.view.writes (Elt F) f
      [⟨Rect.unit (s := S2x264x1024) ![0, 0, 0] S2x8x1024.size inb_S2x264x1024_S2x8x1024_0_0_0, h'⟩]) = stacked h' x := by
  funext i
  by_cases hi : (i 1).val < 8
  · refine (View.read_writes_cons_unit_of_mem (off' := ![0, 0, 0]) xb.view f inb_S2x264x1024_S2x8x1024_0_0_0 h' [] i (ix3 (d := ![2, 8, 1024]) (i 0) ⟨(i 1).val, hi⟩ (i 2)) rfl ?_).trans ?_
    · intro a
      match a with
      | 0 => show (i 0).val = 0 + (i 0).val; omega
      | 1 => show (i 1).val = 0 + (i 1).val; omega
      | 2 => show (i 2).val = 0 + (i 2).val; omega
    · unfold stacked; rw [dif_pos hi]
  · refine (View.read_writes_cons_unit_of_not_mem (off' := ![0, 0, 0]) xb.view f inb_S2x264x1024_S2x8x1024_0_0_0 h' [] i rfl 1 (Or.inr ?_)).trans ?_
    · show 0 + 8 ≤ (i 1).val; omega
    · rw [View.writes_nil, hf]
      unfold stacked; rw [dif_neg hi, dif_neg hi]

/-- The last window is the chunk. -/
theorem window_hi (h : Vec F S2x8x1024 .f32) (x : Vec F S2x256x1024 .f32) : window 8 (by decide) (stacked h x) = x := by
  refine Eq.trans ?_ (stacked_hi h x)
  funext j
  refine congrArg (stacked h x) (funext fun a => ?_)
  match a with
  | 0 => exact Fin.ext (by show (j 0).val = 0 + 1 * (j 0).val; omega)
  | 1 => exact Fin.ext (by show 8 + (j 1).val = 8 + 1 * (j 1).val; omega)
  | 2 => exact Fin.ext (by show (j 2).val = 0 + 1 * (j 2).val; omega)

/-- Both batches' products written. -/
theorem ob_write (f : Buf (Elt F) (ob.view.loc (c : Thread nD τ))) (p0 p1 : FVec F S1x256x1024 .f32) :
    ob.view.read (Elt F) (ob.view.writes (Elt F) f
      [⟨Rect.unit (s := S2x256x1024) ![1, 0, 0] S1x256x1024.size inb_S2x256x1024_S1x256x1024_1_0_0, p1⟩,
       ⟨Rect.unit (s := S2x256x1024) ![0, 0, 0] S1x256x1024.size inb_S2x256x1024_S1x256x1024_0_0_0, p0⟩])
      = fun i => if (i 0).val = 0 then p0 (ix3 (d := ![1, 256, 1024]) (0 : Fin 1) (i 1) (i 2)) else p1 (ix3 (d := ![1, 256, 1024]) (0 : Fin 1) (i 1) (i 2)) := by
  funext i
  have h2 : (i 0).val < 2 := (i 0).isLt
  by_cases hi : (i 0).val = 0
  · refine (View.read_writes_cons_unit_of_not_mem (off' := ![1, 0, 0]) ob.view f inb_S2x256x1024_S1x256x1024_1_0_0 p1 [⟨Rect.unit (s := S2x256x1024) ![0, 0, 0] S1x256x1024.size inb_S2x256x1024_S1x256x1024_0_0_0, p0⟩] i rfl 0 (Or.inl ?_)).trans ?_
    · show (i 0).val < 1; omega
    refine (View.read_writes_cons_unit_of_mem (off' := ![0, 0, 0]) ob.view f inb_S2x256x1024_S1x256x1024_0_0_0 p0 [] i (ix3 (d := ![1, 256, 1024]) (0 : Fin 1) (i 1) (i 2)) rfl ?_).trans (if_pos hi).symm
    intro a
    match a with
    | 0 => show (i 0).val = 0 + 0; omega
    | 1 => show (i 1).val = 0 + (i 1).val; omega
    | 2 => show (i 2).val = 0 + (i 2).val; omega
  · refine (View.read_writes_cons_unit_of_mem (off' := ![1, 0, 0]) ob.view f inb_S2x256x1024_S1x256x1024_1_0_0 p1 [⟨Rect.unit (s := S2x256x1024) ![0, 0, 0] S1x256x1024.size inb_S2x256x1024_S1x256x1024_0_0_0, p0⟩] i (ix3 (d := ![1, 256, 1024]) (0 : Fin 1) (i 1) (i 2)) rfl ?_).trans (if_neg hi).symm
    intro a
    match a with
    | 0 => show (i 0).val = 1 + 0; omega
    | 1 => show (i 1).val = 0 + (i 1).val; omega
    | 2 => show (i 2).val = 0 + (i 2).val; omega

/-- The block product of the fetched rows. -/
theorem blockHalf_spec (w : BitVec 32) (h : Vec F S2x8x1024 .f32) (x : Vec F S2x256x1024 .f32) (k : Vec F S4x1024 .f32) (wp' : Vec F S1024x1024 .f32) :
    iprop(Held xb c (stacked h x) ∗ (∃ v, Held ob c v) ∗ Held kM c k ∗ Held wM c wp')
      ⊢ wp frame (wpE (defs₀ (F := F)) 𝒱₀ (c : Thread nD τ) none) Set.univ (blockHalf w) (fun _ =>
        iprop((∃ v, Held xb c v) ∗ Held ob c (blkOf w h x k wp') ∗ Held kM c k ∗ Held wM c wp')) := by
  unfold Held owns
  iintro ⟨⟨%fx, %hx, Hx⟩, ⟨%v, %fo, -, Ho⟩, ⟨%fk, %hk, Hk⟩, ⟨%fw, %hw, Hw⟩⟩
  unfold blockHalf
  sl_exec
  sl_step
  have hs : xb.view.read (Elt F) (xb.view.writes (Elt F) fx (blockHalf_spec.sl.Hx_1 c w fx)) = stacked (maskHalo w h) x := by
    have e := stacked_write c fx h (maskHalo w h) x hx
    unfold blockHalf_spec.sl.Hx_1
    rw [readAt_halo c fx h x hx]
    exact e
  have h8 : blockHalf_spec.sl.v38 c fx = window 8 (by decide) (stacked (maskHalo w h) x) := by
    unfold blockHalf_spec.sl.v38
    rw [readAt_window c 8 (by decide) _ fx, hx, window_hi, window_hi]
  rw [h8, readAt_window c 7 (by decide), readAt_window c 6 (by decide), readAt_window c 5 (by decide), hs, readAt_krow c 3 (by decide), readAt_krow c 2 (by decide),
    readAt_krow c 1 (by decide), readAt_krow c 0 (by decide), hk, readAt_weights, hw]
  isplitl [Hx]
  · iexists _; iexists _; isplitr
    swap; · iexact Hx
    ipureintro; exact hs
  isplitl [Ho]
  · iexists _; isplitr
    swap; · iexact Ho
    ipureintro; exact ob_write c fo _ _
  isplitl [Hk]
  · iexists fk; isplitr
    · ipureintro; exact hk
    · iexact Hk
  · iexists fw; isplitr
    · ipureintro; exact hw
    · iexact Hw

section
variable {O : CellTallies nD τ sig ℕ}

/-- The output buffer stored to a chunk. -/
theorem putHalf_spec {W : Waits sig ℕ} (o : Fin 3 → ℕ) (ho : In o) (v : Vec F S2x256x1024 .f32) :
    iprop(Held ob c v ∗ (∃ u, Held (oC o ho) c u) ∗ semVal ((c : Thread nD τ), SemLoc.dma cc0_scratch9.sem) 0
        ∗ owes (c : Thread nD τ) O W ∗ Transfers.MayWaits (c : Thread nD τ) 0 O)
      ⊢ wp frame (wpE (defs₀ (F := F)) 𝒱₀ (c : Thread nD τ) none) Set.univ (putHalf o ho) (fun _ =>
        iprop(Held ob c v ∗ Held (oC o ho) c v ∗ semVal ((c : Thread nD τ), SemLoc.dma cc0_scratch9.sem) 0
          ∗ (∃ W', owes (c : Thread nD τ) O W'))) := by
  iintro ⟨Hb, Ho, H9, HO, #Hm⟩
  unfold putHalf
  simp only [Prog.lift, Prog.bind_op, Prog.bind_ret]
  ihave Hb := (show Held ob c v ⊢ iprop(∃ f, ⌜ob.view.read (Elt F) f = v⌝ ∗ (ob.view.loc (c : Thread nD τ) ↦[ob.view.set]{fullShare} f)) from .rfl) $$ Hb
  icases Hb with ⟨%f, %hf, Hb⟩
  iapply (copyStart c (View.dmaCredit_pos _ (by decide))) $$ [Hb Ho H9]
  · isplitl [Hb]; · iexact Hb
    isplitl [Ho]; · iexact Ho
    iexact H9
  iintro Hf
  iapply (copyWait c) $$ [Hf HO]
  · isplitl [Hf]; · iexact Hf
    isplitl [HO]; · iexact HO
    iexact Hm
  iintro ⟨Ho, Hb, H9, HO⟩
  rw [wp_ret]; imodintro
  rw [hf]
  isplitl [Hb]
  · unfold Held owns; iexists f; isplitr
    · ipureintro; exact hf
    · iexact Hb
  isplitl [Ho]; · iexact Ho
  isplitl [H9]; · iexact H9
  iexact HO

/-- The two halves of the input's permission: a chunk and the rows before it are read under one each. -/
def qL : PosShare TreeShare := PosShare.left fullShare
def qR : PosShare TreeShare := PosShare.right fullShare

/-- What a half's run keeps: the input, the filter, the weights, the buffers and the three semaphores at zero. -/
def Tools (X : Vec F S4x2048x1024 .f32) (k : Vec F S4x1024 .f32) (wp' : Vec F S1024x1024 .f32) : sProp (MT nD τ sig ℕ (Elt F) ℕ UU ℕ) :=
  iprop((xM.view.loc (c : Thread nD τ) ↦{qL} X) ∗ (xM.view.loc (c : Thread nD τ) ↦{qR} X)
    ∗ (∃ v, Held xb c v) ∗ (∃ v, Held ob c v) ∗ Held kM c k ∗ Held wM c wp'
    ∗ semVal ((c : Thread nD τ), SemLoc.dma cc0_scratch7.sem) 0 ∗ semVal ((c : Thread nD τ), SemLoc.dma cc0_scratch8.sem) 0
    ∗ semVal ((c : Thread nD τ), SemLoc.dma cc0_scratch9.sem) 0)

/-- The block product of a chunk of the input. -/
def blkAt (X : Vec F S4x2048x1024 .f32) (k : Vec F S4x1024 .f32) (wp' : Vec F S1024x1024 .f32) (w : BitVec 32)
    (o : Fin 3 → ℕ) (ho : In o) (h : Fin 3 → ℕ) (hh : InH h) : Vec F S2x256x1024 .f32 :=
  blkOf w ((xH h hh).view.read (Elt F) X) ((xC o ho).view.read (Elt F) X) k wp'

/-- One half of a chunk: the block product goes to its chunk of the result. -/
theorem half_spec {W : Waits sig ℕ} (X : Vec F S4x2048x1024 .f32) (k : Vec F S4x1024 .f32) (wp' : Vec F S1024x1024 .f32) (w : BitVec 32)
    (o : Fin 3 → ℕ) (ho : In o) (h : Fin 3 → ℕ) (hh : InH h) :
    iprop(Tools c X k wp' ∗ (∃ u, Held (oC o ho) c u) ∗ owes (c : Thread nD τ) O W ∗ Transfers.MayWaits (c : Thread nD τ) 0 O)
      ⊢ wp frame (wpE (defs₀ (F := F)) 𝒱₀ (c : Thread nD τ) none) Set.univ (half w o ho h hh) (fun _ =>
        iprop(Tools c X k wp' ∗ Held (oC o ho) c (blkAt X k wp' w o ho h hh) ∗ (∃ W', owes (c : Thread nD τ) O W'))) := by
  unfold Tools
  iintro ⟨⟨HX, HX', Hxb, Hob, Hk, Hw, H7, H8, H9⟩, Ho, HO, #Hm⟩
  unfold half
  simp only [wp_bind]
  iapply (wp_wand frame (wpE (defs₀ (F := F)) 𝒱₀ (c : Thread nD τ) none)) $$ [HX HX' Hxb H7 H8 HO]
  · iapply (fetchHalf_spec c o ho h hh X)
    isplitl [HX]; · iexact HX
    isplitl [HX']; · iexact HX'
    isplitl [Hxb]; · iexact Hxb
    isplitl [H7]; · iexact H7
    isplitl [H8]; · iexact H8
    isplitl [HO]; · iexact HO
    iexact Hm
  iintro %_ ⟨HX, HX', Hxb, H7, H8, ⟨%W', HO⟩⟩
  iapply (wp_wand frame (wpE (defs₀ (F := F)) 𝒱₀ (c : Thread nD τ) none)) $$ [Hxb Hob Hk Hw]
  · iapply (blockHalf_spec c w)
    isplitl [Hxb]; · iexact Hxb
    isplitl [Hob]; · iexact Hob
    isplitl [Hk]; · iexact Hk
    iexact Hw
  iintro %_ ⟨Hxb, Hob, Hk, Hw⟩
  iapply (wp_wand frame (wpE (defs₀ (F := F)) 𝒱₀ (c : Thread nD τ) none)) $$ [Hob Ho H9 HO]
  · iapply (putHalf_spec c o ho)
    isplitl [Hob]; · iexact Hob
    isplitl [Ho]; · iexact Ho
    isplitl [H9]; · iexact H9
    isplitl [HO]; · iexact HO
    iexact Hm
  iintro %_ ⟨Hob, Ho, H9, HO⟩
  unfold blkAt
  isplitl [HX HX' Hxb Hob Hk Hw H7 H8 H9]
  · isplitl [HX]; · iexact HX
    isplitl [HX']; · iexact HX'
    isplitl [Hxb]; · iexact Hxb
    isplitl [Hob]; · iexists _; iexact Hob
    isplitl [Hk]; · iexact Hk
    isplitl [Hw]; · iexact Hw
    isplitl [H7]; · iexact H7
    isplitl [H8]; · iexact H8
    iexact H9
  isplitl [Ho]; · iexact Ho
  iexact HO

end

end Cert.KernelIdeal.Conv

end
-- ==== Proof.Pairs.lean ====
/- The segments that work on both sides at once: two local copies on one semaphore, an addition, the paired sends,
   waits and credits of the rings, and the opening handshake. -/
module

public import proofs.«01_k».proof.Proof.Block

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig ℕ (Elt F) ℕ UU ℕ

/-! ## Two local copies on one semaphore -/

/-- What each of two copies delivers. -/
def both (p p' : sProp (MT nD τ sig ℕ (Elt F) ℕ UU ℕ)) : Fin 2 → sProp (MT nD τ sig ℕ (Elt F) ℕ UU ℕ)
  | 0 => p
  | 1 => p'

theorem both_zero (p p' : sProp (MT nD τ sig ℕ (Elt F) ℕ UU ℕ)) (h : 0 < 2) : both p p' ⟨0, h⟩ = p := rfl
theorem both_one (p p' : sProp (MT nD τ sig ℕ (Elt F) ℕ UU ℕ)) (h : 1 < 2) : both p p' ⟨1, h⟩ = p' := rfl

instance both_storable (p p' : sProp (MT nD τ sig ℕ (Elt F) ℕ UU ℕ)) [BI.Storable (upEmb : UEmb _ 𝕄) p] [BI.Storable (upEmb : UEmb _ 𝕄) p'] (t : Fin 2) :
    BI.Storable (upEmb : UEmb _ 𝕄) (both p p' t) := by
  match t with
  | 0 => exact ‹BI.Storable (upEmb : UEmb _ 𝕄) p›
  | 1 => exact ‹BI.Storable (upEmb : UEmb _ 𝕄) p'›

variable (c : Dev nD)

theorem copyPair {α : Type} {Q : α → sProp (MT nD τ sig ℕ (Elt F) ℕ UU ℕ)} {W : Waits sig ℕ} {O : CellTallies nD τ sig ℕ}
    {sp sp' : Space} {S : Shape} {s1 s2 : Memref sig .tc sp S .f32} {d1 d2 : Memref sig .tc sp' S .f32} {q : DmaSem sig}
    {h1 : s1.view.WordExact} {h1' : d1.view.WordExact} {h2 : s2.view.WordExact} {h2' : d2.view.WordExact}
    {t1 : DmaTarget.Typed (nD := nD) sp (.dma q) (DmaTarget.here (p := (.tc : Proc τ)) d1)}
    {t2 : DmaTarget.Typed (nD := nD) sp (.dma q) (DmaTarget.here (p := (.tc : Proc τ)) d2)}
    {h3 : s1.view.WordExact} {h3' : d1.view.WordExact} {h4 : s2.view.WordExact} {h4' : d2.view.WordExact}
    (N' : ℕ) (hN : 0 < N') (hn1 : d1.view.dmaCredit = N') (hn2 : d2.view.dmaCredit = N') {k : PUnit → P F α} (v1 v2 : Vec F S .f32) :
    iprop(Held s1 c v1 ∗ (∃ v, Held d1 c v) ∗ Held s2 c v2 ∗ (∃ v, Held d2 c v) ∗ semVal ((c : Thread nD τ), SemLoc.dma q) 0
        ∗ owes (c : Thread nD τ) O W ∗ Transfers.MayWaits (c : Thread nD τ) 0 O)
      ⊢ iprop(((Held s1 c v1 ∗ Held d1 c v1 ∗ Held s2 c v2 ∗ Held d2 c v2 ∗ semVal ((c : Thread nD τ), SemLoc.dma q) 0
              ∗ (∃ W', owes (c : Thread nD τ) O W'))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma s1 (.here d1) (.dma q) h1 h1' t1) fun _ => .op (.enqueueDma s2 (.here d2) (.dma q) h2 h2' t2) fun _ =>
              .op (.waitDma2 q s1 d1 h3 h3') fun _ => .op (.waitDma2 q s2 d2 h4 h4') k) Q) := by
  iintro ⟨H1, D1, H2, D2, Hv, HO, #Hm⟩ Hk
  imod (Transfers.batch_alloc' EC (c : Thread nD τ) (sm := .dma q) (0 : ℕ) N' (both iprop(Held d1 c v1 ∗ Held s1 c v1) iprop(Held d2 c v2 ∗ Held s2 c v2))
    (E := Set.univ)) $$ Hv with HB
  ihave H1 := (show Held s1 c v1 ⊢ iprop(∃ f, ⌜s1.view.read (Elt F) f = v1⌝ ∗ (s1.view.loc (c : Thread nD τ) ↦[s1.view.set]{fullShare} f)) from .rfl) $$ H1
  ihave H2 := (show Held s2 c v2 ⊢ iprop(∃ f, ⌜s2.view.read (Elt F) f = v2⌝ ∗ (s2.view.loc (c : Thread nD τ) ↦[s2.view.set]{fullShare} f)) from .rfl) $$ H2
  ihave D1 := (show iprop(∃ v, Held d1 c v) ⊢ iprop(∃ v f, ⌜d1.view.read (Elt F) f = v⌝ ∗ (d1.view.loc (c : Thread nD τ) ↦[d1.view.set]{fullShare} f)) from .rfl) $$ D1
  ihave D2 := (show iprop(∃ v, Held d2 c v) ⊢ iprop(∃ v f, ⌜d2.view.read (Elt F) f = v⌝ ∗ (d2.view.loc (c : Thread nD τ) ↦[d2.view.set]{fullShare} f)) from .rfl) $$ D2
  icases H1 with ⟨%f1, %e1, H1⟩
  icases H2 with ⟨%f2, %e2, H2⟩
  icases D1 with ⟨%u1, %g1, -, D1⟩
  icases D2 with ⟨%u2, %g2, -, D2⟩
  have land : ∀ (s : Memref sig .tc sp S .f32) (d : Memref sig .tc sp' S .f32) (v : Vec F S .f32) (f : Buf (Elt F) (s.view.loc (c : Thread nD τ))) (g : Buf (Elt F) (d.view.loc (c : Thread nD τ))),
      s.view.read (Elt F) f = v →
      (iprop((d.view.loc (c : Thread nD τ) ↦[d.view.set]{fullShare} (d.view.write (Elt F) g (s.view.read (Elt F) f) Finset.univ))
        ∗ (s.view.loc (c : Thread nD τ) ↦[s.view.set]{fullShare} f)) : sProp (MT nD τ sig ℕ (Elt F) ℕ UU ℕ)) ⊢ iprop(Held d c v ∗ Held s c v) := by
    intro s d v f g e
    unfold Held owns
    iintro ⟨Hd, Hs⟩
    isplitl [Hd]
    · iexists _; isplitr
      swap; · iexact Hd
      ipureintro; rw [← e]; exact View.read_write_univ _ _
    · iexists f; isplitr
      · ipureintro; exact e
      · iexact Hs
  iapply (Transfers.wp_dmaBatch EC 𝒱₀ (c : Thread nD τ) none (D := both iprop(Held d1 c v1 ∗ Held s1 c v1) iprop(Held d2 c v2 ∗ Held s2 c v2))
    (src := s1) (dst := d1) (sm := .dma q) (n := 2) (j := 0) (u := 0) (0 : ℕ) N' (show d1.view.amount (.dma q) = N' from hn1) (Finset.Subset.refl _) (by decide) (Nat.zero_le _) (by rw [both_zero]; exact land s1 d1 v1 f1 g1 e1)) $$ [H1 D1 HB]
  · isplitl [H1]; · iexact H1
    isplitl [D1]; · iexact D1
    iexact HB
  iintro HB
  iapply (Transfers.wp_dmaBatch EC 𝒱₀ (c : Thread nD τ) none (D := both iprop(Held d1 c v1 ∗ Held s1 c v1) iprop(Held d2 c v2 ∗ Held s2 c v2))
    (src := s2) (dst := d2) (sm := .dma q) (n := 2) (j := 1) (u := 0) (0 : ℕ) N' (show d2.view.amount (.dma q) = N' from hn2) (Finset.Subset.refl _) (by decide) (Nat.zero_le _) (by rw [both_one]; exact land s2 d2 v2 f2 g2 e2)) $$ [H2 D2 HB]
  · isplitl [H2]; · iexact H2
    isplitl [D2]; · iexact D2
    iexact HB
  iintro HB
  iapply (Transfers.wp_waitBatchO EC 𝒱₀ (c : Thread nD τ) none (N := N') (n := 2) (u := 0) (D := both iprop(Held d1 c v1 ∗ Held s1 c v1) iprop(Held d2 c v2 ∗ Held s2 c v2)) (0 : ℕ) hn1 (by omega)) $$ [HB HO]
  · isplitl [HB]; · iexact HB
    isplitl [HO]; · iexact HO
    iapply (Transfers.MayWaits.elim (SemLoc.dma q)); iexact Hm
  iintro ⟨HB, HO⟩
  iapply (Transfers.wp_waitBatchLastO EC 𝒱₀ (c : Thread nD τ) none (N := N') (n := 2) (u := 0 + N') (D := both iprop(Held d1 c v1 ∗ Held s1 c v1) iprop(Held d2 c v2 ∗ Held s2 c v2)) (0 : ℕ) hn2 hN (by omega)) $$ [HB HO]
  · isplitl [HB]; · iexact HB
    isplitl [HO]; · iexact HO
    iapply (Transfers.MayWaits.elim (SemLoc.dma q)); iexact Hm
  iintro ⟨HD, Hv, HO⟩
  ihave HD := (show bigSep Finset.univ (both iprop(Held d1 c v1 ∗ Held s1 c v1) iprop(Held d2 c v2 ∗ Held s2 c v2))
      ⊢ iprop((Held d1 c v1 ∗ Held s1 c v1) ∗ (Held d2 c v2 ∗ Held s2 c v2)) from Entails.of_eq (bigSep_univ_eq_bigSepL (I := Fin 2) [0, 1] (by decide) (by decide) _)) $$ HD
  icases HD with ⟨⟨D1, H1⟩, D2, H2⟩
  iapply Hk
  isplitl [H1]; · iexact H1
  isplitl [D1]; · iexact D1
  isplitl [H2]; · iexact H2
  isplitl [D2]; · iexact D2
  isplitl [Hv]; · iexact Hv
  iexists _; iexact HO

section
variable {W : Waits sig ℕ} {O : CellTallies nD τ sig ℕ}

/-- Both chunks brought into the accumulators. -/
theorem loadPair_spec (oa : Fin 3 → ℕ) (ha : In oa) (ob : Fin 3 → ℕ) (hb : In ob) (v1 v2 : Vec F S2x256x1024 .f32) :
    iprop(Held (oC oa ha) c v1 ∗ (∃ v, Held aA c v) ∗ Held (oC ob hb) c v2 ∗ (∃ v, Held aB c v) ∗ semVal ((c : Thread nD τ), SemLoc.dma cc0_scratch6.sem) 0
        ∗ owes (c : Thread nD τ) O W ∗ Transfers.MayWaits (c : Thread nD τ) 0 O)
      ⊢ wp frame (wpE (defs₀ (F := F)) 𝒱₀ (c : Thread nD τ) none) Set.univ (loadPair oa ha ob hb) (fun _ =>
        iprop(Held (oC oa ha) c v1 ∗ Held aA c v1 ∗ Held (oC ob hb) c v2 ∗ Held aB c v2 ∗ semVal ((c : Thread nD τ), SemLoc.dma cc0_scratch6.sem) 0
          ∗ (∃ W', owes (c : Thread nD τ) O W'))) := by
  iintro H
  unfold loadPair
  simp only [Prog.lift, Prog.bind_op, Prog.bind_ret]
  iapply (copyPair c (s1 := oC oa ha) (s2 := oC ob hb) (d1 := aA) (d2 := aB) N N_pos rfl rfl v1 v2) $$ H
  iintro H
  rw [wp_ret]; imodintro
  iexact H

/-- Two buffers stored to two chunks. -/
theorem storePair_spec (a b : Memref sig .tc .vmem S2x256x1024 .f32) (wa : a.IsWhole) (wb : b.IsWhole)
    (oa : Fin 3 → ℕ) (ha : In oa) (ob : Fin 3 → ℕ) (hb : In ob) (v1 v2 : Vec F S2x256x1024 .f32) :
    iprop(Held a c v1 ∗ (∃ v, Held (oC oa ha) c v) ∗ Held b c v2 ∗ (∃ v, Held (oC ob hb) c v) ∗ semVal ((c : Thread nD τ), SemLoc.dma cc0_scratch9.sem) 0
        ∗ owes (c : Thread nD τ) O W ∗ Transfers.MayWaits (c : Thread nD τ) 0 O)
      ⊢ wp frame (wpE (defs₀ (F := F)) 𝒱₀ (c : Thread nD τ) none) Set.univ (storePair a b wa wb oa ha ob hb) (fun _ =>
        iprop(Held a c v1 ∗ Held (oC oa ha) c v1 ∗ Held b c v2 ∗ Held (oC ob hb) c v2 ∗ semVal ((c : Thread nD τ), SemLoc.dma cc0_scratch9.sem) 0
          ∗ (∃ W', owes (c : Thread nD τ) O W'))) := by
  iintro H
  unfold storePair
  simp only [Prog.lift, Prog.bind_op, Prog.bind_ret]
  iapply (copyPair c (s1 := a) (s2 := b) (d1 := oC oa ha) (d2 := oC ob hb) (oC oa ha).view.dmaCredit (View.dmaCredit_pos _ (by decide)) rfl rfl v1 v2) $$ H
  iintro H
  rw [wp_ret]; imodintro
  iexact H

end

/-- The whole of a buffer read through its full box. -/
theorem readAt_full (m : Memref sig .tc .vmem S2x256x1024 .f32) (f : m.view.ty.Contents (Elt F)) :
    m.view.readAt (Elt F) (Rect.unit (s := S2x256x1024) ![0, 0, 0] S2x256x1024.size inb_S2x256x1024_S2x256x1024_0_0_0).toLoadRect f = m.view.read (Elt F) f := by
  funext j
  rw [View.readAt_apply]
  refine congrArg (m.view.read (Elt F) f) (funext fun a => ?_)
  match a with
  | 0 => exact Fin.ext (by show 0 + 1 * (j 0).val = (j 0).val; omega)
  | 1 => exact Fin.ext (by show 0 + 1 * (j 1).val = (j 1).val; omega)
  | 2 => exact Fin.ext (by show 0 + 1 * (j 2).val = (j 2).val; omega)

/-- The whole of a buffer rewritten through its full box. -/
theorem write_full (m : Memref sig .tc .vmem S2x256x1024 .f32) (f : m.view.ty.Contents (Elt F)) (v : Vec F S2x256x1024 .f32) :
    m.view.read (Elt F) (m.view.writes (Elt F) f [⟨Rect.unit (s := S2x256x1024) ![0, 0, 0] S2x256x1024.size inb_S2x256x1024_S2x256x1024_0_0_0, v⟩]) = v := by
  funext i
  refine View.read_writes_cons_unit_of_mem (off' := ![0, 0, 0]) m.view f inb_S2x256x1024_S2x256x1024_0_0_0 v [] i i rfl ?_
  intro a
  match a with
  | 0 => show (i 0).val = 0 + (i 0).val; omega
  | 1 => show (i 1).val = 0 + (i 1).val; omega
  | 2 => show (i 2).val = 0 + (i 2).val; omega

/-- An accumulator plus what arrived. -/
theorem addOne_spec (a r : Memref sig .tc .vmem S2x256x1024 .f32) (v u : Vec F S2x256x1024 .f32) :
    iprop(Held a c v ∗ Held r c u)
      ⊢ wp frame (wpE (defs₀ (F := F)) 𝒱₀ (c : Thread nD τ) none) Set.univ (addOne a r) (fun _ =>
        iprop(Held a c (shapeCast S2x256x1024 (addf v u : FVec F S2x256x1024 .f32) shapeCasts_S2x256x1024_S2x256x1024) ∗ Held r c u)) := by
  unfold Held owns
  iintro ⟨⟨%f, %hf, Ha⟩, ⟨%g, %hg, Hr⟩⟩
  unfold addOne
  sl_exec
  sl_step
  rw [readAt_full, readAt_full, hf, hg]
  isplitl [Ha]
  · iexists _; isplitr
    swap; · iexact Ha
    ipureintro; exact write_full a f _
  · iexists g; isplitr
    · ipureintro; exact hg
    · iexact Hr

end Cert.KernelIdeal.Conv

end
-- ==== Proof.Rings.lean ====
/- The segments that touch the rings, for any transfer: both credits awaited and both chunks sent, both transfers
   awaited, both credits given, and the opening handshake. -/
module

public import proofs.«01_k».proof.Proof.Pairs

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section
variable (B : Bool → Dev nD → Fin 8 → Vec F S2x256x1024 .f32) (K : Dev nD × Ck → ℕ)

/-- What one side needs to send at transfer `t`. -/
def Ready (s : Bool) (c : Dev nD) (t : ℕ) : sProp (MT nD τ sig ℕ (Elt F) ℕ UU ℕ) :=
  iprop(cred (tallyAt (credCell s c) (t + 1) 1) ∗ atPos ER (credCell s c) t ∅ 0 ∗ Held (oAt s (ch s c t)) c (V B s t c)
    ∗ dutyTok ER (sendCell s c) t false ∗ reached ER (sendCell s c) t ∗ dutyTok ER (recvCell s (tgt s c)) t false)
/-- What it has once it sent. -/
def Sent (s : Bool) (c : Dev nD) (t : ℕ) : sProp (MT nD τ sig ℕ (Elt F) ℕ UU ℕ) :=
  iprop(atPos ER (credCell s c) (t + 1) ∅ 0 ∗ cred (tallyAt (sendCell s c) (t + 1) N))
/-- What one side needs to await a transfer. -/
def Waiting (s : Bool) (c : Dev nD) (t : ℕ) : sProp (MT nD τ sig ℕ (Elt F) ℕ UU ℕ) :=
  iprop(cred (tallyAt (sendCell s c) (t + 1) N) ∗ cred (tallyAt (recvCell s c) (t + 1) N) ∗ atPos ER (sendCell s c) t ∅ 0 ∗ atPos ER (recvCell s c) t ∅ 0)
/-- What it has then: its chunk again, and what its neighbour sent. -/
def Landed (s : Bool) (c : Dev nD) (t : ℕ) : sProp (MT nD τ sig ℕ (Elt F) ℕ UU ℕ) :=
  iprop(atPos ER (sendCell s c) (t + 1) ∅ 0 ∗ reached ER (sendCell s c) (t + 1) ∗ Held (oAt s (ch s c t)) c (V B s t c)
    ∗ atPos ER (recvCell s c) (t + 1) ∅ 0 ∗ reached ER (recvCell s c) (t + 1) ∗ Held (rM s) c (V B s t (fr s c)) ∗ reached ER (credCell s (fr s c)) (t + 1))
/-- What one side needs to give credit `t`. -/
def Giving (s : Bool) (c : Dev nD) (t : ℕ) : sProp (MT nD τ sig ℕ (Elt F) ℕ UU ℕ) :=
  iprop(dutyTok ER (credCell s (fr s c)) t false ∗ (∃ v, Held (rM s) c v) ∗ reached ER (recvCell s c) t ∗ reached ER (credCell s (fr s c)) t)

variable {W : Waits sig ℕ} (c : Dev nD) (t : ℕ) (ht : t < 14)
include ht

theorem sendPair_spec (r l : Dev nD) (hr : r = tgt false c) (hl : l = tgt true c) (oa : Fin 3 → ℕ) (ha : In oa) (ob : Fin 3 → ℕ) (hb : In ob)
    (ea : oa = off false (ch false c t)) (eb : ob = off true (ch true c t)) :
    iprop(recs B K ∗ levAts L lv ∗ owes (c : Thread nD τ) (debt c t (t + 1)) W ∗ Ready B false c t ∗ Ready B true c t)
      ⊢ wp frame (wpE (defs₀ (F := F)) 𝒱₀ (c : Thread nD τ) none) Set.univ (sendPair r l oa ha ob hb) (fun _ =>
        iprop((∃ W', owes (c : Thread nD τ) (debt c (t + 1) (t + 1)) W') ∗ Sent (F := F) false c t ∗ Sent (F := F) true c t)) := by
  subst hr hl ea eb
  unfold Ready Sent
  iintro ⟨#HR, #Hlev, HO, ⟨Ac, Ap, Ah, As, Ars, Ar⟩, ⟨Bc, Bp, Bh, Bs, Brs, Br⟩⟩
  unfold sendPair
  simp only [semWaitWord, Prog.lift, Prog.bind_op, Prog.bind_ret, Prog.pure_eq_ret]
  iapply (credWait B K false c t ht _ (by rfl)) $$ [Ac HO Ap]
  · isplitr; · iexact HR
    isplitr; · iexact Hlev
    isplitl [Ac]; · iexact Ac
    isplitl [HO]; · iexact HO
    iexact Ap
  iintro ⟨⟨%W1, HO⟩, Ap, Arc, Apay⟩
  iapply (credWait B K true c t ht _ (by rfl)) $$ [Bc HO Bp]
  · isplitr; · iexact HR
    isplitr; · iexact Hlev
    isplitl [Bc]; · iexact Bc
    isplitl [HO]; · iexact HO
    iexact Bp
  iintro ⟨⟨%W2, HO⟩, Bp, Brc, Bpay⟩
  rw [debt_send c t (t + 1) ht]
  iapply (sendOne B K false c t ht rfl) $$ [Ah Apay Arc HO As Ars Ar]
  · isplitr; · iexact HR
    isplitl [Ah]; · iexact Ah
    isplitl [Apay]; · iexact Apay
    isplitl [Arc]; · iexact Arc
    isplitl [HO]; · iexact HO
    isplitl [As]; · iexact As
    isplitl [Ars]; · iexact Ars
    iexact Ar
  iintro ⟨⟨%W3, HO⟩, Acs⟩
  iapply (sendOne B K true c t ht rfl) $$ [Bh Bpay Brc HO Bs Brs Br]
  · isplitr; · iexact HR
    isplitl [Bh]; · iexact Bh
    isplitl [Bpay]; · iexact Bpay
    isplitl [Brc]; · iexact Brc
    isplitl [HO]; · iexact HO
    isplitl [Bs]; · iexact Bs
    isplitl [Brs]; · iexact Brs
    iexact Br
  iintro ⟨HO, Bcs⟩
  rw [wp_ret]; imodintro
  isplitl [HO]; · iexact HO
  isplitl [Ap Acs]
  · isplitl [Ap] <;> iassumption
  · isplitl [Bp] <;> iassumption

theorem awaitPair_spec (oa : Fin 3 → ℕ) (ha : In oa) (ob : Fin 3 → ℕ) (hb : In ob) :
    iprop(recs B K ∗ levAts L lv ∗ owes (c : Thread nD τ) (debt c (t + 1) (t + 1)) W ∗ Waiting (F := F) false c t ∗ Waiting (F := F) true c t)
      ⊢ wp frame (wpE (defs₀ (F := F)) 𝒱₀ (c : Thread nD τ) none) Set.univ (awaitPair oa ha ob hb) (fun _ =>
        iprop((∃ W', owes (c : Thread nD τ) (debt c (t + 1) (t + 1)) W') ∗ Landed B false c t ∗ Landed B true c t)) := by
  unfold Waiting Landed
  iintro ⟨#HR, #Hlev, HO, ⟨As, Ar, Aps, Apr⟩, ⟨Bs, Br, Bps, Bpr⟩⟩
  unfold awaitPair
  simp only [Prog.lift, Prog.bind_op, Prog.bind_ret]
  iapply (sendWait B K false c t ht (t + 1) (t + 1) (src := rA) (dst := oC oa ha) rfl) $$ [As HO Aps]
  · isplitr; · iexact HR
    isplitr; · iexact Hlev
    isplitl [As]; · iexact As
    isplitl [HO]; · iexact HO
    iexact Aps
  iintro ⟨⟨%W1, HO⟩, Aps, Ars, Ah⟩
  iapply (recvWait B K false c t ht (src := oC oa ha) (dst := rA) rfl) $$ [Ar HO Apr]
  · isplitr; · iexact HR
    isplitr; · iexact Hlev
    isplitl [Ar]; · iexact Ar
    isplitl [HO]; · iexact HO
    iexact Apr
  iintro ⟨⟨%W2, HO⟩, Apr, Arr, Ab, Arc⟩
  iapply (sendWait B K true c t ht (t + 1) (t + 1) (src := rB) (dst := oC ob hb) rfl) $$ [Bs HO Bps]
  · isplitr; · iexact HR
    isplitr; · iexact Hlev
    isplitl [Bs]; · iexact Bs
    isplitl [HO]; · iexact HO
    iexact Bps
  iintro ⟨⟨%W3, HO⟩, Bps, Brs, Bh⟩
  iapply (recvWait B K true c t ht (src := oC ob hb) (dst := rB) rfl) $$ [Br HO Bpr]
  · isplitr; · iexact HR
    isplitr; · iexact Hlev
    isplitl [Br]; · iexact Br
    isplitl [HO]; · iexact HO
    iexact Bpr
  iintro ⟨HO, Bpr, Brr, Bb, Brc⟩
  rw [wp_ret]; imodintro
  isplitl [HO]; · iexact HO
  isplitl [Aps Ars Ah Apr Arr Ab Arc]
  · isplitl [Aps]; · iexact Aps
    isplitl [Ars]; · iexact Ars
    isplitl [Ah]; · iexact Ah
    isplitl [Apr]; · iexact Apr
    isplitl [Arr]; · iexact Arr
    isplitl [Ab]; · iexact Ab
    iexact Arc
  · isplitl [Bps]; · iexact Bps
    isplitl [Brs]; · iexact Brs
    isplitl [Bh]; · iexact Bh
    isplitl [Bpr]; · iexact Bpr
    isplitl [Brr]; · iexact Brr
    isplitl [Bb]; · iexact Bb
    iexact Brc

theorem creditPair_spec (T : ℕ) (l r : Dev nD) (hl : l = fr false c) (hr : r = fr true c) :
    iprop(recs B K ∗ owes (c : Thread nD τ) (debt c T t) W ∗ Giving (F := F) false c t ∗ Giving (F := F) true c t)
      ⊢ wp frame (wpE (defs₀ (F := F)) 𝒱₀ (c : Thread nD τ) none) Set.univ (creditPair l r) (fun _ =>
        iprop(∃ W', owes (c : Thread nD τ) (debt c T (t + 1)) W')) := by
  subst hl hr
  unfold Giving
  iintro ⟨#HR, HO, ⟨At, Ab, Ar, Ac⟩, ⟨Bt, Bb, Br, Bc⟩⟩
  unfold creditPair
  simp only [semSignalWord, Prog.lift, Prog.bind_op, Prog.bind_ret, Prog.pure_eq_ret]
  rw [debt_cred c T t ht]
  iapply (credSignal B K false c t ht _ (by rfl)) $$ [HO At Ab Ar Ac]
  · isplitr; · iexact HR
    isplitl [HO]; · iexact HO
    isplitl [At]; · iexact At
    isplitl [Ab]; · iexact Ab
    isplitl [Ar]; · iexact Ar
    iexact Ac
  iintro ⟨%W1, HO⟩
  iapply (credSignal B K true c t ht _ (by rfl)) $$ [HO Bt Bb Br Bc]
  · isplitr; · iexact HR
    isplitl [HO]; · iexact HO
    isplitl [Bt]; · iexact Bt
    isplitl [Bb]; · iexact Bb
    isplitl [Br]; · iexact Br
    iexact Bc
  iintro HO
  rw [wp_ret]; imodintro
  iexact HO

omit ht

/-- The opening: a unit to either neighbour's barrier, both of one's own awaited, and the first credits. -/
theorem opening_spec (l r l' r' : Dev nD) (hl : l = fr false c) (hr : r = fr true c) (hl' : l' = fr false c) (hr' : r' = fr true c) :
    iprop(recs B K ∗ levAts L lv
        ∗ owes (c : Thread nD τ) ((debt c 0 0 + tallyAt (barCell (fr true c)) 1 1) + tallyAt (barCell (fr false c)) 1 1) W
        ∗ cred (tallyAt (barCell c) 1 2) ∗ atPos ER (barCell c) 0 ∅ 0
        ∗ dutyTok ER (barCell (fr false c)) 0 false ∗ reached ER (barCell (fr false c)) 0
        ∗ dutyTok ER (barCell (fr true c)) 0 true ∗ reached ER (barCell (fr true c)) 0
        ∗ Giving (F := F) false c 0 ∗ Giving (F := F) true c 0)
      ⊢ wp frame (wpE (defs₀ (F := F)) 𝒱₀ (c : Thread nD τ) none) Set.univ (opening l r l' r') (fun _ =>
        iprop((∃ W', owes (c : Thread nD τ) (debt c 0 1) W') ∗ atPos ER (barCell c) 1 ∅ 0)) := by
  subst hl hr hl' hr'
  iintro ⟨#HR, #Hlev, HO, Hc, Hp, At, Ar, Bt, Br, HA, HB⟩
  unfold opening
  simp only [semSignalWord, semWaitWord, Prog.lift, Prog.bind_op, Prog.bind_ret, Prog.pure_eq_ret]
  iapply (Rounds.wp_signal 𝒱₀ ER (Rd B) (c : Thread nD τ) none (dst := (fr false c : Thread nD τ)) (κ := K (fr false c, none))
      (d := false) (r := 0) (by rw [duties_bar]; exact Finset.mem_univ _) (amount_bar B (fr false c) 0 false) 1
      (debt c 0 0 + tallyAt (barCell (fr true c)) 1 1) rfl) $$ [HO At Ar]
  · isplitr; · iapply (recs_at B K (fr false c, none)); iexact HR
    isplitl [HO]; · iexact HO
    isplitl [At]; · iexact At
    isplitr; · rw [payload_bar]; iempintro
    iexact Ar
  iintro HO
  iapply (Rounds.wp_signal 𝒱₀ ER (Rd B) (c : Thread nD τ) none (dst := (fr true c : Thread nD τ)) (κ := K (fr true c, none))
      (d := true) (r := 0) (by rw [duties_bar]; exact Finset.mem_univ _) (amount_bar B (fr true c) 0 true) 1 (debt c 0 0) rfl) $$ [HO Bt Br]
  · isplitr; · iapply (recs_at B K (fr true c, none)); iexact HR
    isplitl [HO]; · iexact HO
    isplitl [Bt]; · iexact Bt
    isplitr; · rw [payload_bar]; iempintro
    iexact Br
  iintro HO
  iapply (Rounds.wp_wait_rest_token 𝒱₀ ER (Rd B) (c : Thread nD τ) none (κ := K (c, none))
      (wpE_semWait_eq 𝒱₀ (c : Thread nD τ) none Set.univ) (Set.mem_univ _) 1 (O := debt c 0 0) (R := 0) (m := 0) (T := ∅)
      (by rw [Nat.zero_add, expect_bar B c]; rfl)) $$ [Hc HO Hp]
  · isplitr; · iapply (recs_at B K (c, none)); iexact HR
    isplitl [Hc]; · iexact Hc
    isplitl [HO]; · iexact HO
    isplitr; · iapply (mayWait_bar c); iexact Hlev
    iexact Hp
  iintro ⟨HO, Hp, -, -⟩
  iapply wp_wand $$ [HO HA HB]
  · iapply (creditPair_spec B K c 0 (by decide) 0 (fr false c) (fr true c) rfl rfl)
    isplitr; · iexact HR
    isplitl [HO]; · iexact HO
    isplitl [HA]; · iexact HA
    iexact HB
  iintro %_ HO
  isplitl [HO]; · iexact HO
  iexact Hp

end

end Cert.KernelIdeal.Conv

end
-- ==== Proof.Walk.lean ====
/- One step of either ring, from the state before a transfer to the state before the next. -/
module

public import proofs.«01_k».proof.Proof.Rings

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Offsets and words in closed form -/

/-- The offsets of the rows before a chunk; the first chunk takes its own first rows, to be zeroed. -/
def offH (s : Bool) (j : Fin 8) : Fin 3 → ℕ := ![if s then 2 else 0, 256 * j.val - 8, 0]
theorem offH_in (s : Bool) (j : Fin 8) : InH (offH s j) := by revert s j; decide

theorem e1 (d : Dev nD) : k0_off1 d = off false (ch false d 0) := by revert d; decide
theorem e2 (d : Dev nD) : k0_off2 d = offH false (ch false d 0) := by revert d; decide
theorem e3 (d : Dev nD) : k0_off3 d = off true (ch true d 0) := by revert d; decide
theorem e4 (d : Dev nD) : k0_off4 d = offH true (ch true d 0) := by revert d; decide
theorem e5 (d : Dev nD) (r : Fin 7) : k0_off5 d (w32 r) = off false (ch false d r.val) := by revert d r; decide
theorem e6 (d : Dev nD) (r : Fin 7) : k0_off6 d (w32 r) = off true (ch true d r.val) := by revert d r; decide
theorem e7 (d : Dev nD) (r : Fin 7) : k0_off7 d (w32 r) = off false (ch false d (r.val + 1)) := by revert d r; decide
theorem e8 (d : Dev nD) (r : Fin 7) : k0_off8 d (w32 r) = offH false (ch false d (r.val + 1)) := by revert d r; decide
theorem e9 (d : Dev nD) (r : Fin 7) : k0_off9 d (w32 r) = off true (ch true d (r.val + 1)) := by revert d r; decide
theorem e10 (d : Dev nD) (r : Fin 7) : k0_off10 d (w32 r) = offH true (ch true d (r.val + 1)) := by revert d r; decide
theorem e11 (d : Dev nD) (r : Fin 7) : k0_off11 d (w32 r) = off false (ch false d (7 + r.val)) := by revert d r; decide
theorem e12 (d : Dev nD) (r : Fin 7) : k0_off12 d (w32 r) = off true (ch true d (7 + r.val)) := by revert d r; decide
theorem e5' (d : Dev nD) (r : Fin 7) : k0_off5 d (w32 r) = off false (ch false d (7 + r.val + 1)) := by revert d r; decide
theorem e6' (d : Dev nD) (r : Fin 7) : k0_off6 d (w32 r) = off true (ch true d (7 + r.val + 1)) := by revert d r; decide

theorem wd0 (s : Bool) (d : Dev nD) : myW d = BitVec.ofNat 32 (ch s d 0).val := by revert s d; decide
theorem wdA (d : Dev nD) (r : Fin 7) : Scalar.remsi (Scalar.addi (Scalar.subi (Scalar.subi (myW d) (w32 r)) 1#32) 16#32) 8#32
    = BitVec.ofNat 32 (ch false d (r.val + 1)).val := by revert d r; decide
theorem wdB (d : Dev nD) (r : Fin 7) : Scalar.remsi (Scalar.addi (Scalar.addi (Scalar.addi (myW d) (w32 r)) 1#32) 16#32) 8#32
    = BitVec.ofNat 32 (ch true d (r.val + 1)).val := by revert d r; decide

theorem ch_ne (s : Bool) (c : Dev nD) (u t : ℕ) (h1 : u < t) (h2 : t ≤ u + 7) (h3 : t ≤ 14) : ch s c u ≠ ch s c t := by
  have hc : c.val < 8 := c.isLt
  intro h
  have h' := congrArg Fin.val h
  cases s <;> simp only [ch] at h' <;> omega

/-! ## The blocks -/

/-- Device `c`'s block product of a chunk, from the devices' inputs, filters and weights. -/
def Bk (X : Dev nD → Vec F S4x2048x1024 .f32) (k : Dev nD → Vec F S4x1024 .f32) (wp' : Dev nD → Vec F S1024x1024 .f32)
    (s : Bool) (c : Dev nD) (j : Fin 8) : Vec F S2x256x1024 .f32 :=
  blkAt (X c) (k c) (wp' c) (BitVec.ofNat 32 j.val) (off s j) (off_in s j) (offH s j) (offH_in s j)

section
variable (X : Dev nD → Vec F S4x2048x1024 .f32) (k : Dev nD → Vec F S4x1024 .f32) (wp' : Dev nD → Vec F S1024x1024 .f32)
variable (c : Dev nD)

theorem half_at {W : Waits sig ℕ} {O : CellTallies nD τ sig ℕ} (s : Bool) (j : Fin 8) (w : BitVec 32) (o : Fin 3 → ℕ) (ho : In o) (h : Fin 3 → ℕ) (hh : InH h)
    (hw : w = BitVec.ofNat 32 j.val) (eo : o = off s j) (eh : h = offH s j) :
    iprop(Tools c (X c) (k c) (wp' c) ∗ (∃ u, Held (oAt s j) c u) ∗ owes (c : Thread nD τ) O W ∗ Transfers.MayWaits (c : Thread nD τ) 0 O)
      ⊢ wp frame (wpE (defs₀ (F := F)) 𝒱₀ (c : Thread nD τ) none) Set.univ (half w o ho h hh) (fun _ =>
        iprop(Tools c (X c) (k c) (wp' c) ∗ Held (oAt s j) c (Bk X k wp' s c j) ∗ (∃ W', owes (c : Thread nD τ) O W'))) := by
  subst hw eo eh
  exact half_spec c (X c) (k c) (wp' c) _ _ ho _ hh

theorem loadPair_at {W : Waits sig ℕ} {O : CellTallies nD τ sig ℕ} (j j' : Fin 8) (oa : Fin 3 → ℕ) (ha : In oa) (ob : Fin 3 → ℕ) (hb : In ob)
    (ea : oa = off false j) (eb : ob = off true j') (v1 v2 : Vec F S2x256x1024 .f32) :
    iprop(Held (oAt false j) c v1 ∗ (∃ v, Held aA c v) ∗ Held (oAt true j') c v2 ∗ (∃ v, Held aB c v) ∗ semVal ((c : Thread nD τ), SemLoc.dma cc0_scratch6.sem) 0
        ∗ owes (c : Thread nD τ) O W ∗ Transfers.MayWaits (c : Thread nD τ) 0 O)
      ⊢ wp frame (wpE (defs₀ (F := F)) 𝒱₀ (c : Thread nD τ) none) Set.univ (loadPair oa ha ob hb) (fun _ =>
        iprop(Held (oAt false j) c v1 ∗ Held aA c v1 ∗ Held (oAt true j') c v2 ∗ Held aB c v2 ∗ semVal ((c : Thread nD τ), SemLoc.dma cc0_scratch6.sem) 0
          ∗ (∃ W', owes (c : Thread nD τ) O W'))) := by
  subst ea eb
  exact loadPair_spec c _ ha _ hb v1 v2

theorem storePair_at {W : Waits sig ℕ} {O : CellTallies nD τ sig ℕ} (j j' : Fin 8) (a b : Memref sig .tc .vmem S2x256x1024 .f32) (wa : a.IsWhole) (wb : b.IsWhole)
    (oa : Fin 3 → ℕ) (ha : In oa) (ob : Fin 3 → ℕ) (hb : In ob)
    (ea : oa = off false j) (eb : ob = off true j') (v1 v2 : Vec F S2x256x1024 .f32) :
    iprop(Held a c v1 ∗ (∃ v, Held (oAt false j) c v) ∗ Held b c v2 ∗ (∃ v, Held (oAt true j') c v) ∗ semVal ((c : Thread nD τ), SemLoc.dma cc0_scratch9.sem) 0
        ∗ owes (c : Thread nD τ) O W ∗ Transfers.MayWaits (c : Thread nD τ) 0 O)
      ⊢ wp frame (wpE (defs₀ (F := F)) 𝒱₀ (c : Thread nD τ) none) Set.univ (storePair a b wa wb oa ha ob hb) (fun _ =>
        iprop(Held a c v1 ∗ Held (oAt false j) c v1 ∗ Held b c v2 ∗ Held (oAt true j') c v2 ∗ semVal ((c : Thread nD τ), SemLoc.dma cc0_scratch9.sem) 0
          ∗ (∃ W', owes (c : Thread nD τ) O W'))) := by
  subst ea eb
  exact storePair_spec c a b wa wb _ ha _ hb v1 v2

end

/-! ## The state between transfers -/

section
variable (B : Bool → Dev nD → Fin 8 → Vec F S2x256x1024 .f32) (K : Dev nD × Ck → ℕ)

/-- A side's chunks of the result: the one to be sent next, and from the seventh transfer on all those finished. -/
def Chunks (s : Bool) (c : Dev nD) (t : ℕ) : sProp (MT nD τ sig ℕ (Elt F) ℕ UU ℕ) :=
  iprop(∃ v : Fin 8 → Vec F S2x256x1024 .f32, ⌜v (ch s c t) = V B s t c ∧ ∀ u, 7 ≤ u → u ≤ t → v (ch s c u) = V B s u c⌝
    ∗ bigSep Finset.univ fun j => Held (oAt s j) c (v j))

theorem chunk_take (s : Bool) (c : Dev nD) (j : Fin 8) (v : Fin 8 → Vec F S2x256x1024 .f32) :
    (bigSep Finset.univ fun i => (Held (oAt s i) c (v i) : sProp (MT nD τ sig ℕ (Elt F) ℕ UU ℕ)))
      = iprop(Held (oAt s j) c (v j) ∗ bigSep (Finset.univ.erase j) fun i => Held (oAt s i) c (v i)) :=
  bigSep_erase (Finset.mem_univ j)

theorem chunk_put (s : Bool) (c : Dev nD) (j : Fin 8) (v : Fin 8 → Vec F S2x256x1024 .f32) (w : Vec F S2x256x1024 .f32) :
    iprop(Held (oAt s j) c w ∗ bigSep (Finset.univ.erase j) fun i => (Held (oAt s i) c (v i) : sProp (MT nD τ sig ℕ (Elt F) ℕ UU ℕ)))
      ⊢ bigSep Finset.univ fun i => Held (oAt s i) c (Function.update v j w i) := by
  rw [chunk_take s c j, Function.update_self]
  iintro ⟨H, H'⟩
  isplitl [H]; · iexact H
  iapply (show (bigSep (Finset.univ.erase j) fun i => (Held (oAt s i) c (v i) : sProp (MT nD τ sig ℕ (Elt F) ℕ UU ℕ)))
    ⊢ bigSep (Finset.univ.erase j) fun i => Held (oAt s i) c (Function.update v j w i) from
      Entails.of_eq (bigSep_congr fun i hi => by rw [Function.update_of_ne (Finset.ne_of_mem_erase hi)]))
  iexact H'

/-- The first chunk, written. -/
theorem chunks_start (s : Bool) (c : Dev nD) :
    iprop(∃ v : Fin 8 → Vec F S2x256x1024 .f32, bigSep Finset.univ fun j => Held (oAt s j) c (v j))
      ⊢ iprop((∃ w, Held (oAt s (ch s c 0)) c w) ∗ (Held (oAt s (ch s c 0)) c (V B s 0 c) -∗ Chunks B s c 0)) := by
  iintro ⟨%v, H⟩
  ihave H := (Entails.of_eq (chunk_take s c (ch s c 0) v)) $$ H
  icases H with ⟨H0, H⟩
  isplitl [H0]; · iexists _; iexact H0
  iintro H0
  unfold Chunks
  iexists (Function.update v (ch s c 0) (V B s 0 c))
  isplitr
  · ipureintro
    exact ⟨Function.update_self .., fun u h1 h2 => absurd (h1.trans h2) (by decide)⟩
  iapply (chunk_put s c (ch s c 0) v (V B s 0 c))
  isplitl [H0] <;> iassumption

/-- One transfer's two chunks: the one sent, and the one written. -/
theorem chunks_step (s : Bool) (c : Dev nD) (t : ℕ) (ht : t < 14) :
    Chunks B s c t ⊢ iprop(Held (oAt s (ch s c t)) c (V B s t c) ∗ (∃ w, Held (oAt s (ch s c (t + 1))) c w)
      ∗ (Held (oAt s (ch s c t)) c (V B s t c) -∗ Held (oAt s (ch s c (t + 1))) c (V B s (t + 1) c) -∗ Chunks B s c (t + 1))) := by
  have hne : ch s c t ≠ ch s c (t + 1) := ch_ne s c t (t + 1) (by omega) (by omega) (by omega)
  unfold Chunks
  iintro ⟨%v, %hv, H⟩
  have e : (bigSep (Finset.univ.erase (ch s c (t + 1))) fun i => (Held (oAt s i) c (v i) : sProp (MT nD τ sig ℕ (Elt F) ℕ UU ℕ)))
      = iprop(Held (oAt s (ch s c t)) c (V B s t c) ∗ bigSep ((Finset.univ.erase (ch s c (t + 1))).erase (ch s c t)) fun i => Held (oAt s i) c (v i)) := by
    rw [bigSep_erase (s := Finset.univ.erase (ch s c (t + 1))) (Finset.mem_erase.mpr ⟨hne, Finset.mem_univ _⟩), hv.1]
    rfl
  ihave H := (Entails.of_eq (chunk_take s c (ch s c (t + 1)) v)) $$ H
  icases H with ⟨H1, H⟩
  ihave H := (Entails.of_eq e) $$ H
  icases H with ⟨H0, H⟩
  isplitl [H0]; · iexact H0
  isplitl [H1]; · iexists _; iexact H1
  iintro H0 H1
  iexists (Function.update v (ch s c (t + 1)) (V B s (t + 1) c))
  isplitr
  · ipureintro
    refine ⟨Function.update_self .., fun u h1 h2 => ?_⟩
    rcases Nat.lt_or_ge u (t + 1) with h | h
    · rw [Function.update_of_ne (ch_ne s c u (t + 1) h (by omega) (by omega))]
      exact hv.2 u h1 (by omega)
    · obtain rfl : u = t + 1 := by omega
      exact Function.update_self ..
  iapply (chunk_put s c (ch s c (t + 1)) v (V B s (t + 1) c))
  isplitl [H1]; · iexact H1
  iapply (Entails.of_eq e.symm)
  isplitl [H0] <;> iassumption

/-- What one side consumes at transfer `u`. -/
def stock (s : Bool) (c : Dev nD) (u : ℕ) : sProp (MT nD τ sig ℕ (Elt F) ℕ UU ℕ) :=
  iprop(cred (tallyAt (credCell s c) (u + 1) 1) ∗ cred (tallyAt (recvCell s c) (u + 1) N)
    ∗ dutyTok ER (sendCell s c) u false ∗ dutyTok ER (recvCell s (tgt s c)) u false)
/-- The credits still to be given. -/
def Credits (s : Bool) (c : Dev nD) (t : ℕ) : sProp (MT nD τ sig ℕ (Elt F) ℕ UU ℕ) :=
  bigSep (Finset.Ico t 14) fun u => dutyTok ER (credCell s (fr s c)) u false
/-- A side before transfer `t`. -/
def Side (s : Bool) (c : Dev nD) (t : ℕ) : sProp (MT nD τ sig ℕ (Elt F) ℕ UU ℕ) :=
  iprop(Chunks B s c t ∗ bigSep (Finset.Ico t 14) (stock s c) ∗ atPos ER (credCell s c) t ∅ 0 ∗ atPos ER (recvCell s c) t ∅ 0
    ∗ atPos ER (sendCell s c) t ∅ 0 ∗ reached ER (sendCell s c) t)
/-- A landing buffer free again, before credit `t`. -/
def Mid (s : Bool) (c : Dev nD) (t : ℕ) : sProp (MT nD τ sig ℕ (Elt F) ℕ UU ℕ) :=
  iprop((∃ v, Held (rM s) c v) ∗ reached ER (recvCell s c) t ∗ reached ER (credCell s (fr s c)) t)

/-- What a landing leaves to the side itself, and what to its landing buffer. -/
def Took (s : Bool) (c : Dev nD) (t : ℕ) : sProp (MT nD τ sig ℕ (Elt F) ℕ UU ℕ) :=
  iprop(atPos ER (sendCell s c) (t + 1) ∅ 0 ∗ reached ER (sendCell s c) (t + 1) ∗ Held (oAt s (ch s c t)) c (V B s t c)
    ∗ atPos ER (recvCell s c) (t + 1) ∅ 0)
def Come (s : Bool) (c : Dev nD) (t : ℕ) : sProp (MT nD τ sig ℕ (Elt F) ℕ UU ℕ) :=
  iprop(reached ER (recvCell s c) (t + 1) ∗ reached ER (credCell s (fr s c)) (t + 1))

theorem landed_split (s : Bool) (c : Dev nD) (t : ℕ) :
    Landed B s c t ⊢ iprop(Took B s c t ∗ Come (F := F) s c t ∗ Held (rM s) c (V B s t (fr s c))) := by
  unfold Landed Took Come
  iintro ⟨As, Hr, H0, Ar, Rr, Hb, Rc⟩
  isplitl [As Hr H0 Ar]
  · isplitl [As]; · iexact As
    isplitl [Hr]; · iexact Hr
    isplitl [H0] <;> iassumption
  isplitl [Rr Rc]
  · isplitl [Rr] <;> iassumption
  · iexact Hb

theorem mid_of (s : Bool) (c : Dev nD) (t : ℕ) (v : Vec F S2x256x1024 .f32) :
    iprop(Come (F := F) s c t ∗ Held (rM s) c v) ⊢ Mid (F := F) s c (t + 1) := by
  unfold Come Mid
  iintro ⟨⟨Rr, Rc⟩, Hb⟩
  isplitl [Hb]; · iexists v; iexact Hb
  isplitl [Rr] <;> iassumption

theorem ico_take (Φ : ℕ → sProp (MT nD τ sig ℕ (Elt F) ℕ UU ℕ)) (t : ℕ) (ht : t < 14) :
    bigSep (Finset.Ico t 14) Φ = iprop(Φ t ∗ bigSep (Finset.Ico (t + 1) 14) Φ) := by
  have e : Finset.Ico t 14 = insert t (Finset.Ico (t + 1) 14) := by
    ext x
    simp only [Finset.mem_Ico, Finset.mem_insert]
    omega
  rw [e]
  exact bigSep_insert (by simp)

theorem credits_give (s : Bool) (c : Dev nD) (t : ℕ) (ht : t < 14) :
    iprop(Mid (F := F) s c t ∗ Credits (F := F) s c t) ⊢ iprop(Giving (F := F) s c t ∗ Credits (F := F) s c (t + 1)) := by
  unfold Mid Credits Giving
  rw [ico_take _ t ht]
  iintro ⟨⟨H1, H2, H3⟩, H4, H5⟩
  isplitr [H5]
  swap; · iexact H5
  isplitl [H4]; · iexact H4
  isplitl [H1]; · iexact H1
  isplitl [H2] <;> iassumption

theorem side_open (s : Bool) (c : Dev nD) (t : ℕ) (ht : t < 14) :
    Side B s c t ⊢ iprop(Ready B s c t ∗ (∃ w, Held (oAt s (ch s c (t + 1))) c w)
      ∗ (Sent (F := F) s c t -∗ iprop(Waiting (F := F) s c t
          ∗ (Took B s c t -∗ Held (oAt s (ch s c (t + 1))) c (V B s (t + 1) c) -∗ Side B s c (t + 1))))) := by
  unfold Side Ready Sent Waiting Took
  iintro ⟨Hc, Hs, Ac, Ar, As, Hr⟩
  ihave Hc := (chunks_step B s c t ht) $$ Hc
  ihave Hs := (Entails.of_eq (ico_take (stock s c) t ht)) $$ Hs
  unfold stock
  icases Hc with ⟨H0, H1, Hc⟩
  icases Hs with ⟨⟨Cc, Cr, Ds, Dr⟩, Hs⟩
  isplitl [Cc Ac H0 Ds Hr Dr]
  · isplitl [Cc]; · iexact Cc
    isplitl [Ac]; · iexact Ac
    isplitl [H0]; · iexact H0
    isplitl [Ds]; · iexact Ds
    isplitl [Hr]; · iexact Hr
    iexact Dr
  isplitl [H1]; · iexact H1
  iintro ⟨Ac, Cs⟩
  isplitl [Cs Cr As Ar]
  · isplitl [Cs]; · iexact Cs
    isplitl [Cr]; · iexact Cr
    isplitl [As]; · iexact As
    iexact Ar
  iintro ⟨As, Hr, H0, Ar⟩ H1
  ihave Hc := Hc $$ H0 H1
  isplitl [Hc]; · iexact Hc
  isplitl [Hs]; · iexact Hs
  isplitl [Ac]; · iexact Ac
  isplitl [Ar]; · iexact Ar
  isplitl [As]; · iexact As
  iexact Hr

/-- What a device carries through the steps besides its two sides. -/
def Kit (X : Dev nD → Vec F S4x2048x1024 .f32) (k : Dev nD → Vec F S4x1024 .f32) (wp' : Dev nD → Vec F S1024x1024 .f32) (c : Dev nD) :
    sProp (MT nD τ sig ℕ (Elt F) ℕ UU ℕ) :=
  iprop(Tools c (X c) (k c) (wp' c) ∗ (∃ v, Held aA c v) ∗ (∃ v, Held aB c v) ∗ semVal ((c : Thread nD τ), SemLoc.dma cc0_scratch6.sem) 0)

theorem tools_nine (c : Dev nD) (X : Vec F S4x2048x1024 .f32) (k : Vec F S4x1024 .f32) (wp' : Vec F S1024x1024 .f32) :
    Tools c X k wp' ⊢ iprop(semVal ((c : Thread nD τ), SemLoc.dma cc0_scratch9.sem) 0
      ∗ (semVal ((c : Thread nD τ), SemLoc.dma cc0_scratch9.sem) 0 -∗ Tools c X k wp')) := by
  unfold Tools
  iintro ⟨H1, H2, H3, H4, H5, H6, H7, H8, H9⟩
  isplitl [H9]; · iexact H9
  iintro H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

end

section
variable (X : Dev nD → Vec F S4x2048x1024 .f32) (k : Dev nD → Vec F S4x1024 .f32) (wp' : Dev nD → Vec F S1024x1024 .f32) (K : Dev nD × Ck → ℕ)
variable {W : Waits sig ℕ} (c : Dev nD) (r : Fin 7)

/-- One step of the summing ring. -/
theorem sumStep_spec (sr sl cl cr : Dev nD) (hr : sr = tgt false c) (hl : sl = tgt true c) (hcl : cl = fr false c) (hcr : cr = fr true c) :
    iprop(recs (Bk X k wp') K ∗ levAts L lv ∗ owes (c : Thread nD τ) (debt c r.val (r.val + 1)) W ∗ Kit X k wp' c
        ∗ Side (Bk X k wp') false c r.val ∗ Side (Bk X k wp') true c r.val ∗ Credits (F := F) false c (r.val + 1) ∗ Credits (F := F) true c (r.val + 1))
      ⊢ wp frame (wpE (defs₀ (F := F)) 𝒱₀ (c : Thread nD τ) none) Set.univ (sumStep c r sr sl cl cr) (fun _ =>
        iprop((∃ W', owes (c : Thread nD τ) (debt c (r.val + 1) (r.val + 2)) W') ∗ Kit X k wp' c
          ∗ Side (Bk X k wp') false c (r.val + 1) ∗ Side (Bk X k wp') true c (r.val + 1)
          ∗ Credits (F := F) false c (r.val + 2) ∗ Credits (F := F) true c (r.val + 2))) := by
  have ht : r.val < 14 := by omega
  have hV : ∀ s, V (Bk X k wp') s (r.val + 1) c = shapeCast S2x256x1024 (addf (Bk X k wp' s c (ch s c (r.val + 1))) (V (Bk X k wp') s r.val (fr s c)) : FVec F S2x256x1024 .f32)
      shapeCasts_S2x256x1024_S2x256x1024 := fun s => by rw [V, if_pos r.isLt]
  unfold Kit
  iintro ⟨#HR, #Hlev, HO, ⟨HT, HaA, HaB, H6⟩, SA, SB, CA, CB⟩
  ihave SA := (side_open _ false c r.val ht) $$ SA
  ihave SB := (side_open _ true c r.val ht) $$ SB
  icases SA with ⟨RA, OA, SA⟩
  icases SB with ⟨RB, OB, SB⟩
  unfold sumStep
  simp only [wp_bind]
  iapply wp_wand $$ [HO RA RB]
  · iapply (sendPair_spec (Bk X k wp') K c r.val ht sr sl hr hl _ _ _ _ (e5 c r) (e6 c r))
    isplitr; · iexact HR
    isplitr; · iexact Hlev
    isplitl [HO]; · iexact HO
    isplitl [RA] <;> iassumption
  iintro %_ ⟨⟨%W1, HO⟩, RA, RB⟩
  ihave SA := SA $$ RA
  ihave SB := SB $$ RB
  icases SA with ⟨WA, SA⟩
  icases SB with ⟨WB, SB⟩
  iapply wp_wand $$ [HT OA HO]
  · iapply (half_at X k wp' c false (ch false c (r.val + 1)) _ _ _ _ _ (wdA c r) (e7 c r) (e8 c r))
    isplitl [HT]; · iexact HT
    isplitl [OA]; · iexact OA
    isplitl [HO]; · iexact HO
    iapply (mayWaits_local c _ _); iexact Hlev
  iintro %_ ⟨HT, OA, ⟨%W2, HO⟩⟩
  iapply wp_wand $$ [HT OB HO]
  · iapply (half_at X k wp' c true (ch true c (r.val + 1)) _ _ _ _ _ (wdB c r) (e9 c r) (e10 c r))
    isplitl [HT]; · iexact HT
    isplitl [OB]; · iexact OB
    isplitl [HO]; · iexact HO
    iapply (mayWaits_local c _ _); iexact Hlev
  iintro %_ ⟨HT, OB, ⟨%W3, HO⟩⟩
  iapply wp_wand $$ [OA HaA OB HaB H6 HO]
  · iapply (loadPair_at c (ch false c (r.val + 1)) (ch true c (r.val + 1)) _ _ _ _ (e7 c r) (e9 c r))
    isplitl [OA]; · iexact OA
    isplitl [HaA]; · iexact HaA
    isplitl [OB]; · iexact OB
    isplitl [HaB]; · iexact HaB
    isplitl [H6]; · iexact H6
    isplitl [HO]; · iexact HO
    iapply (mayWaits_local c _ _); iexact Hlev
  iintro %_ ⟨OA, HaA, OB, HaB, H6, ⟨%W4, HO⟩⟩
  iapply wp_wand $$ [HO WA WB]
  · iapply (awaitPair_spec (Bk X k wp') K c r.val ht)
    isplitr; · iexact HR
    isplitr; · iexact Hlev
    isplitl [HO]; · iexact HO
    isplitl [WA] <;> iassumption
  iintro %_ ⟨⟨%W5, HO⟩, LA, LB⟩
  ihave LA := (landed_split _ false c r.val) $$ LA
  ihave LB := (landed_split _ true c r.val) $$ LB
  icases LA with ⟨TA, CoA, HrA⟩
  icases LB with ⟨TB, CoB, HrB⟩
  iapply wp_wand $$ [HaA HrA]
  · iapply (addOne_spec c aA rA)
    isplitl [HaA] <;> iassumption
  iintro %_ ⟨HaA, HrA⟩
  iapply wp_wand $$ [HaB HrB]
  · iapply (addOne_spec c aB rB)
    isplitl [HaB] <;> iassumption
  iintro %_ ⟨HaB, HrB⟩
  ihave HT := (tools_nine c _ _ _) $$ HT
  icases HT with ⟨H9, HT⟩
  iapply wp_wand $$ [HaA OA HaB OB H9 HO]
  · iapply (storePair_at c (ch false c (r.val + 1)) (ch true c (r.val + 1)) aA aB _ _ _ _ _ _ (e7 c r) (e9 c r))
    isplitl [HaA]; · iexact HaA
    isplitl [OA]; · iexists _; iexact OA
    isplitl [HaB]; · iexact HaB
    isplitl [OB]; · iexists _; iexact OB
    isplitl [H9]; · iexact H9
    isplitl [HO]; · iexact HO
    iapply (mayWaits_local c _ _); iexact Hlev
  iintro %_ ⟨HaA, OA, HaB, OB, H9, ⟨%W6, HO⟩⟩
  ihave HT := HT $$ H9
  ihave OA := (Entails.of_eq (congrArg (Held (oAt false (ch false c (r.val + 1))) c) (hV false).symm)) $$ OA
  ihave OB := (Entails.of_eq (congrArg (Held (oAt true (ch true c (r.val + 1))) c) (hV true).symm)) $$ OB
  ihave SA := SA $$ TA OA
  ihave SB := SB $$ TB OB
  ihave MA := (mid_of false c r.val _) $$ [CoA HrA]
  · isplitl [CoA] <;> iassumption
  ihave MB := (mid_of true c r.val _) $$ [CoB HrB]
  · isplitl [CoB] <;> iassumption
  ihave CA := (credits_give false c (r.val + 1) (by omega)) $$ [MA CA]
  · isplitl [MA] <;> iassumption
  ihave CB := (credits_give true c (r.val + 1) (by omega)) $$ [MB CB]
  · isplitl [MB] <;> iassumption
  icases CA with ⟨GA, CA⟩
  icases CB with ⟨GB, CB⟩
  iapply wp_wand $$ [HO GA GB]
  · iapply (creditPair_spec (Bk X k wp') K c (r.val + 1) (by omega) (r.val + 1) cl cr hcl hcr)
    isplitr; · iexact HR
    isplitl [HO]; · iexact HO
    isplitl [GA] <;> iassumption
  iintro %_ HO
  isplitl [HO]; · iexact HO
  isplitl [HT HaA HaB H6]
  · isplitl [HT]; · iexact HT
    isplitl [HaA]; · iexists _; iexact HaA
    isplitl [HaB]; · iexists _; iexact HaB
    iexact H6
  isplitl [SA]; · iexact SA
  isplitl [SB]; · iexact SB
  isplitl [CA] <;> iassumption

/-- One step of the gathering ring. -/
theorem gatherStep_spec (t : ℕ) (ht' : t = 7 + r.val) (sr sl : Dev nD) (hr : sr = tgt false c) (hl : sl = tgt true c) :
    iprop(recs (Bk X k wp') K ∗ levAts L lv ∗ owes (c : Thread nD τ) (debt c t (t + 1)) W ∗ Kit X k wp' c
        ∗ Side (Bk X k wp') false c t ∗ Side (Bk X k wp') true c t)
      ⊢ wp frame (wpE (defs₀ (F := F)) 𝒱₀ (c : Thread nD τ) none) Set.univ (gatherStep c r sr sl) (fun _ =>
        iprop((∃ W', owes (c : Thread nD τ) (debt c (t + 1) (t + 1)) W') ∗ Kit X k wp' c
          ∗ Side (Bk X k wp') false c (t + 1) ∗ Side (Bk X k wp') true c (t + 1)
          ∗ Mid (F := F) false c (t + 1) ∗ Mid (F := F) true c (t + 1))) := by
  subst ht'
  have ht : 7 + r.val < 14 := by omega
  have hV : ∀ s, V (Bk X k wp') s (7 + r.val + 1) c = V (Bk X k wp') s (7 + r.val) (fr s c) := fun s => by rw [V, if_neg (by omega)]
  unfold Kit
  iintro ⟨#HR, #Hlev, HO, ⟨HT, HaA, HaB, H6⟩, SA, SB⟩
  ihave SA := (side_open _ false c _ ht) $$ SA
  ihave SB := (side_open _ true c _ ht) $$ SB
  icases SA with ⟨RA, OA, SA⟩
  icases SB with ⟨RB, OB, SB⟩
  unfold gatherStep
  simp only [wp_bind]
  iapply wp_wand $$ [HO RA RB]
  · iapply (sendPair_spec (Bk X k wp') K c _ ht sr sl hr hl _ _ _ _ (e11 c r) (e12 c r))
    isplitr; · iexact HR
    isplitr; · iexact Hlev
    isplitl [HO]; · iexact HO
    isplitl [RA] <;> iassumption
  iintro %_ ⟨⟨%W1, HO⟩, RA, RB⟩
  ihave SA := SA $$ RA
  ihave SB := SB $$ RB
  icases SA with ⟨WA, SA⟩
  icases SB with ⟨WB, SB⟩
  iapply wp_wand $$ [HO WA WB]
  · iapply (awaitPair_spec (Bk X k wp') K c _ ht)
    isplitr; · iexact HR
    isplitr; · iexact Hlev
    isplitl [HO]; · iexact HO
    isplitl [WA] <;> iassumption
  iintro %_ ⟨⟨%W5, HO⟩, LA, LB⟩
  ihave LA := (landed_split _ false c _) $$ LA
  ihave LB := (landed_split _ true c _) $$ LB
  icases LA with ⟨TA, CoA, HrA⟩
  icases LB with ⟨TB, CoB, HrB⟩
  ihave HT := (tools_nine c _ _ _) $$ HT
  icases HT with ⟨H9, HT⟩
  iapply wp_wand $$ [HrA OA HrB OB H9 HO]
  · iapply (storePair_at c (ch false c (7 + r.val + 1)) (ch true c (7 + r.val + 1)) rA rB _ _ _ _ _ _ (e5' c r) (e6' c r))
    isplitl [HrA]; · iexact HrA
    isplitl [OA]; · iexact OA
    isplitl [HrB]; · iexact HrB
    isplitl [OB]; · iexact OB
    isplitl [H9]; · iexact H9
    isplitl [HO]; · iexact HO
    iapply (mayWaits_local c _ _); iexact Hlev
  iintro %_ ⟨HrA, OA, HrB, OB, H9, HO⟩
  ihave HT := HT $$ H9
  ihave OA := (Entails.of_eq (congrArg (Held (oAt false (ch false c (7 + r.val + 1))) c) (hV false).symm)) $$ OA
  ihave OB := (Entails.of_eq (congrArg (Held (oAt true (ch true c (7 + r.val + 1))) c) (hV true).symm)) $$ OB
  ihave SA := SA $$ TA OA
  ihave SB := SB $$ TB OB
  ihave MA := (mid_of false c _ _) $$ [CoA HrA]
  · isplitl [CoA] <;> iassumption
  ihave MB := (mid_of true c _ _) $$ [CoB HrB]
  · isplitl [CoB] <;> iassumption
  isplitl [HO]; · iexact HO
  isplitl [HT HaA HaB H6]
  · isplitl [HT]; · iexact HT
    isplitl [HaA]; · iexact HaA
    isplitl [HaB]; · iexact HaB
    iexact H6
  isplitl [SA]; · iexact SA
  isplitl [SB]; · iexact SB
  isplitl [MA] <;> iassumption

/-- The credits between two steps of the gathering ring. -/
theorem creditStep_spec (t : ℕ) (ht : t < 14) (cl cr : Dev nD) (hcl : cl = fr false c) (hcr : cr = fr true c) :
    iprop(recs (Bk X k wp') K ∗ owes (c : Thread nD τ) (debt c t t) W ∗ Mid (F := F) false c t ∗ Mid (F := F) true c t
        ∗ Credits (F := F) false c t ∗ Credits (F := F) true c t)
      ⊢ wp frame (wpE (defs₀ (F := F)) 𝒱₀ (c : Thread nD τ) none) Set.univ (creditPair cl cr) (fun _ =>
        iprop((∃ W', owes (c : Thread nD τ) (debt c t (t + 1)) W') ∗ Credits (F := F) false c (t + 1) ∗ Credits (F := F) true c (t + 1))) := by
  iintro ⟨#HR, HO, MA, MB, CA, CB⟩
  ihave CA := (credits_give false c t ht) $$ [MA CA]
  · isplitl [MA] <;> iassumption
  ihave CB := (credits_give true c t ht) $$ [MB CB]
  · isplitl [MB] <;> iassumption
  icases CA with ⟨GA, CA⟩
  icases CB with ⟨GB, CB⟩
  iapply wp_wand $$ [HO GA GB]
  · iapply (creditPair_spec (Bk X k wp') K c t ht t cl cr hcl hcr)
    isplitr; · iexact HR
    isplitl [HO]; · iexact HO
    isplitl [GA] <;> iassumption
  iintro %_ HO
  isplitl [HO]; · iexact HO
  isplitl [CA] <;> iassumption

end

end Cert.KernelIdeal.Conv

end
-- ==== Proof.Ride.lean ====
/- The whole body of the kernel at one device, from its opening to its last transfer. -/
module

public import proofs.«01_k».proof.Proof.Walk

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section
variable (X : Dev nD → Vec F S4x2048x1024 .f32) (k : Dev nD → Vec F S4x1024 .f32) (wp' : Dev nD → Vec F S1024x1024 .f32) (K : Dev nD × Ck → ℕ)
variable (c : Dev nD)

/-- What every segment may read: the cells' records and the levels. -/
def Base : sProp (MT nD τ sig ℕ (Elt F) ℕ UU ℕ) := iprop(recs (Bk X k wp') K ∗ levAts L lv)

instance Base_persistent : BI.Persistent (Base X k wp' K) := by unfold Base; infer_instance

/-- The state before transfer `t`, its credits given. -/
def Before (t : ℕ) : sProp (MT nD τ sig ℕ (Elt F) ℕ UU ℕ) :=
  iprop((∃ W, owes (c : Thread nD τ) (debt c t (t + 1)) W) ∗ Kit X k wp' c
    ∗ Side (Bk X k wp') false c t ∗ Side (Bk X k wp') true c t ∗ Credits (F := F) false c (t + 1) ∗ Credits (F := F) true c (t + 1))
/-- The state before credit `t`, in the gathering ring. -/
def Between (t : ℕ) : sProp (MT nD τ sig ℕ (Elt F) ℕ UU ℕ) :=
  iprop((∃ W, owes (c : Thread nD τ) (debt c t t) W) ∗ Kit X k wp' c
    ∗ Side (Bk X k wp') false c t ∗ Side (Bk X k wp') true c t ∗ Mid (F := F) false c t ∗ Mid (F := F) true c t
    ∗ Credits (F := F) false c t ∗ Credits (F := F) true c t)

/-- One segment and then the rest. -/
theorem segThen {A A' : sProp (MT nD τ sig ℕ (Elt F) ℕ UU ℕ)} {Q : PUnit → sProp (MT nD τ sig ℕ (Elt F) ℕ UU ℕ)} {p q : P F PUnit}
    (hp : iprop(Base X k wp' K ∗ A) ⊢ wp frame (wpE (defs₀ (F := F)) 𝒱₀ (c : Thread nD τ) none) Set.univ p (fun _ => A'))
    (hq : iprop(Base X k wp' K ∗ A') ⊢ wp frame (wpE (defs₀ (F := F)) 𝒱₀ (c : Thread nD τ) none) Set.univ q Q) :
    iprop(Base X k wp' K ∗ A) ⊢ wp frame (wpE (defs₀ (F := F)) 𝒱₀ (c : Thread nD τ) none) Set.univ (p >>= fun _ => q) Q := by
  iintro ⟨#HB, HA⟩
  rw [wp_bind]
  iapply wp_wand $$ [HA]
  · iapply hp
    isplitr; · iexact HB
    iexact HA
  iintro %_ HA
  iapply hq
  isplitr; · iexact HB
  iexact HA

theorem sum_seg (r : Fin 7) (sr sl cl cr : Dev nD) (hr : sr = tgt false c) (hl : sl = tgt true c) (hcl : cl = fr false c) (hcr : cr = fr true c) :
    iprop(Base X k wp' K ∗ Before X k wp' c r.val)
      ⊢ wp frame (wpE (defs₀ (F := F)) 𝒱₀ (c : Thread nD τ) none) Set.univ (sumStep c r sr sl cl cr) (fun _ => Before X k wp' c (r.val + 1)) := by
  unfold Base Before
  iintro ⟨⟨HR, Hl⟩, ⟨%W, HO⟩, HK, H⟩
  iapply (sumStep_spec X k wp' K c r sr sl cl cr hr hl hcl hcr)
  isplitl [HR]; · iexact HR
  isplitl [Hl]; · iexact Hl
  isplitl [HO]; · iexact HO
  isplitl [HK]; · iexact HK
  iexact H

theorem gather_seg (r : Fin 7) (t : ℕ) (ht : t = 7 + r.val) (sr sl : Dev nD) (hr : sr = tgt false c) (hl : sl = tgt true c) :
    iprop(Base X k wp' K ∗ Before X k wp' c t)
      ⊢ wp frame (wpE (defs₀ (F := F)) 𝒱₀ (c : Thread nD τ) none) Set.univ (gatherStep c r sr sl) (fun _ => Between X k wp' c (t + 1)) := by
  unfold Base Before Between
  iintro ⟨⟨HR, Hl⟩, ⟨%W, HO⟩, HK, SA, SB, C⟩
  iapply wp_wand $$ [HR Hl HO HK SA SB]
  · iapply (gatherStep_spec X k wp' K c r t ht sr sl hr hl)
    isplitl [HR]; · iexact HR
    isplitl [Hl]; · iexact Hl
    isplitl [HO]; · iexact HO
    isplitl [HK]; · iexact HK
    isplitl [SA] <;> iassumption
  iintro %_ ⟨HO, HK, SA, SB, MA, MB⟩
  isplitl [HO]; · iexact HO
  isplitl [HK]; · iexact HK
  isplitl [SA]; · iexact SA
  isplitl [SB]; · iexact SB
  isplitl [MA]; · iexact MA
  isplitl [MB]; · iexact MB
  iexact C

theorem credit_seg (t : ℕ) (ht : t < 14) (cl cr : Dev nD) (hcl : cl = fr false c) (hcr : cr = fr true c) :
    iprop(Base X k wp' K ∗ Between X k wp' c t)
      ⊢ wp frame (wpE (defs₀ (F := F)) 𝒱₀ (c : Thread nD τ) none) Set.univ (creditPair cl cr) (fun _ => Before X k wp' c t) := by
  unfold Base Before Between
  iintro ⟨⟨HR, -⟩, ⟨%W, HO⟩, HK, SA, SB, M⟩
  iapply wp_wand $$ [HR HO M]
  · iapply (creditStep_spec X k wp' K c t ht cl cr hcl hcr)
    isplitl [HR]; · iexact HR
    isplitl [HO]; · iexact HO
    iexact M
  iintro %_ ⟨HO, CA, CB⟩
  isplitl [HO]; · iexact HO
  isplitl [HK]; · iexact HK
  isplitl [SA]; · iexact SA
  isplitl [SB]; · iexact SB
  isplitl [CA] <;> iassumption

/-- A side as the launch leaves it. -/
def Begin (s : Bool) : sProp (MT nD τ sig ℕ (Elt F) ℕ UU ℕ) :=
  iprop((∃ v : Fin 8 → Vec F S2x256x1024 .f32, bigSep Finset.univ fun j => Held (oAt s j) c (v j))
    ∗ bigSep (Finset.Ico 0 14) (stock (F := F) s c) ∗ atPos ER (credCell s c) 0 ∅ 0 ∗ atPos ER (recvCell s c) 0 ∅ 0
    ∗ atPos ER (sendCell s c) 0 ∅ 0 ∗ reached ER (sendCell s c) 0)

theorem begin_open (s : Bool) :
    Begin (F := F) c s ⊢ iprop((∃ w, Held (oAt s (ch s c 0)) c w) ∗ (Held (oAt s (ch s c 0)) c (Bk X k wp' s c (ch s c 0)) -∗ Side (Bk X k wp') s c 0)) := by
  unfold Begin Side
  iintro ⟨H, H'⟩
  ihave H := (chunks_start (Bk X k wp') s c) $$ H
  icases H with ⟨H0, H⟩
  isplitl [H0]; · iexact H0
  iintro H0
  isplitl [H H0]
  · iapply H; iexact H0
  iexact H'

/-- What the launch leaves for the opening. -/
def Gate : sProp (MT nD τ sig ℕ (Elt F) ℕ UU ℕ) :=
  iprop((∃ W, owes (c : Thread nD τ) ((debt c 0 0 + tallyAt (barCell (fr true c)) 1 1) + tallyAt (barCell (fr false c)) 1 1) W)
    ∗ cred (tallyAt (barCell c) 1 2) ∗ atPos ER (barCell c) 0 ∅ 0
    ∗ dutyTok ER (barCell (fr false c)) 0 false ∗ reached ER (barCell (fr false c)) 0
    ∗ dutyTok ER (barCell (fr true c)) 0 true ∗ reached ER (barCell (fr true c)) 0)
/-- The state before the body. -/
def Pre : sProp (MT nD τ sig ℕ (Elt F) ℕ UU ℕ) :=
  iprop(Gate (F := F) c ∗ Kit X k wp' c ∗ Begin (F := F) c false ∗ Begin (F := F) c true ∗ Mid (F := F) false c 0 ∗ Mid (F := F) true c 0
    ∗ Credits (F := F) false c 0 ∗ Credits (F := F) true c 0)
/-- The state with the opening done, and with the first halves done. -/
def Opened (b : Bool) : sProp (MT nD τ sig ℕ (Elt F) ℕ UU ℕ) :=
  iprop((∃ W, owes (c : Thread nD τ) (debt c 0 1) W) ∗ Kit X k wp' c
    ∗ (match b with | false => Begin (F := F) c false | true => Side (Bk X k wp') false c 0)
    ∗ Begin (F := F) c true ∗ Credits (F := F) false c 1 ∗ Credits (F := F) true c 1)

theorem open_seg (l r l' r' : Dev nD) (hl : l = fr false c) (hr : r = fr true c) (hl' : l' = fr false c) (hr' : r' = fr true c) :
    iprop(Base X k wp' K ∗ Pre X k wp' c)
      ⊢ wp frame (wpE (defs₀ (F := F)) 𝒱₀ (c : Thread nD τ) none) Set.univ (opening l r l' r')
        (fun _ => iprop(Opened X k wp' c false ∗ atPos ER (barCell c) 1 ∅ 0)) := by
  unfold Base Pre Gate Opened
  iintro ⟨⟨HR, Hl⟩, ⟨⟨%W, HO⟩, Hc, Ha, D1, R1, D2, R2⟩, HK, SA, SB, MA, MB, CA, CB⟩
  ihave CA := (credits_give false c 0 (by decide)) $$ [MA CA]
  · isplitl [MA] <;> iassumption
  ihave CB := (credits_give true c 0 (by decide)) $$ [MB CB]
  · isplitl [MB] <;> iassumption
  icases CA with ⟨GA, CA⟩
  icases CB with ⟨GB, CB⟩
  iapply wp_wand $$ [HR Hl HO Hc Ha D1 R1 D2 R2 GA GB]
  · iapply (opening_spec (Bk X k wp') K c l r l' r' hl hr hl' hr')
    isplitl [HR]; · iexact HR
    isplitl [Hl]; · iexact Hl
    isplitl [HO]; · iexact HO
    isplitl [Hc]; · iexact Hc
    isplitl [Ha]; · iexact Ha
    isplitl [D1]; · iexact D1
    isplitl [R1]; · iexact R1
    isplitl [D2]; · iexact D2
    isplitl [R2]; · iexact R2
    isplitl [GA] <;> iassumption
  iintro %_ ⟨HO, Ha⟩
  isplitr [Ha]; swap; · iexact Ha
  isplitl [HO]; · iexact HO
  isplitl [HK]; · iexact HK
  isplitl [SA]; · iexact SA
  isplitl [SB]; · iexact SB
  isplitl [CA] <;> iassumption

theorem firstA_seg {R : sProp (MT nD τ sig ℕ (Elt F) ℕ UU ℕ)} :
    iprop(Base X k wp' K ∗ Opened X k wp' c false ∗ R)
      ⊢ wp frame (wpE (defs₀ (F := F)) 𝒱₀ (c : Thread nD τ) none) Set.univ (half (myW c) (k0_off1 c) (k0_off1_inb c) (k0_off2 c) (k0_off2_inb c))
        (fun _ => iprop(Opened X k wp' c true ∗ R)) := by
  unfold Base Opened Kit
  iintro ⟨⟨-, Hl⟩, ⟨⟨%W, HO⟩, ⟨HT, HK⟩, SA, SB, C⟩, HR⟩
  ihave SA := (begin_open X k wp' c false) $$ SA
  icases SA with ⟨OA, SA⟩
  iapply wp_wand $$ [Hl HO HT OA]
  · iapply (half_at X k wp' c false (ch false c 0) _ _ _ _ _ (wd0 false c) (e1 c) (e2 c))
    isplitl [HT]; · iexact HT
    isplitl [OA]; · iexact OA
    isplitl [HO]; · iexact HO
    iapply (mayWaits_local c _ _); iexact Hl
  iintro %_ ⟨HT, OA, HO⟩
  isplitr [HR]; swap; · iexact HR
  isplitl [HO]; · iexact HO
  isplitl [HT HK]
  · isplitl [HT] <;> iassumption
  isplitl [SA OA]
  · iapply SA; iexact OA
  isplitl [SB] <;> iassumption

theorem firstB_seg {R : sProp (MT nD τ sig ℕ (Elt F) ℕ UU ℕ)} :
    iprop(Base X k wp' K ∗ Opened X k wp' c true ∗ R)
      ⊢ wp frame (wpE (defs₀ (F := F)) 𝒱₀ (c : Thread nD τ) none) Set.univ (half (myW c) (k0_off3 c) (k0_off3_inb c) (k0_off4 c) (k0_off4_inb c))
        (fun _ => iprop(Before X k wp' c 0 ∗ R)) := by
  unfold Base Opened Before Kit
  iintro ⟨⟨-, Hl⟩, ⟨⟨%W, HO⟩, ⟨HT, HK⟩, SA, SB, C⟩, HR⟩
  ihave SB := (begin_open X k wp' c true) $$ SB
  icases SB with ⟨OB, SB⟩
  iapply wp_wand $$ [Hl HO HT OB]
  · iapply (half_at X k wp' c true (ch true c 0) _ _ _ _ _ (wd0 true c) (e3 c) (e4 c))
    isplitl [HT]; · iexact HT
    isplitl [OB]; · iexact OB
    isplitl [HO]; · iexact HO
    iapply (mayWaits_local c _ _); iexact Hl
  iintro %_ ⟨HT, OB, HO⟩
  isplitr [HR]; swap; · iexact HR
  isplitl [HO]; · iexact HO
  isplitl [HT HK]
  · isplitl [HT] <;> iassumption
  isplitl [SA]; · iexact SA
  isplitl [SB OB]
  · iapply SB; iexact OB
  iexact C

/-- A segment that leaves something aside. -/
theorem segR {A A' R : sProp (MT nD τ sig ℕ (Elt F) ℕ UU ℕ)} {p : P F PUnit}
    (hp : iprop(Base X k wp' K ∗ A) ⊢ wp frame (wpE (defs₀ (F := F)) 𝒱₀ (c : Thread nD τ) none) Set.univ p (fun _ => A')) :
    iprop(Base X k wp' K ∗ A ∗ R) ⊢ wp frame (wpE (defs₀ (F := F)) 𝒱₀ (c : Thread nD τ) none) Set.univ p (fun _ => iprop(A' ∗ R)) := by
  iintro ⟨HB, HA, HR⟩
  iapply wp_wand $$ [HB HA]
  · iapply hp
    isplitl [HB] <;> iassumption
  iintro %_ HA
  isplitl [HA] <;> iassumption

/-- A device learns its own number. -/
theorem ownNumber {A : sProp (MT nD τ sig ℕ (Elt F) ℕ UU ℕ)} {Q : PUnit → sProp (MT nD τ sig ℕ (Elt F) ℕ UU ℕ)} {q : Dev nD → P F PUnit}
    (hq : A ⊢ wp frame (wpE (defs₀ (F := F)) 𝒱₀ (c : Thread nD τ) none) Set.univ (q c) Q) :
    A ⊢ wp frame (wpE (defs₀ (F := F)) 𝒱₀ (c : Thread nD τ) none) Set.univ (Prog.lift .deviceId >>= q) Q := by
  simp only [Prog.lift, Prog.bind_op, Prog.bind_ret, wp_deviceId]
  exact hq

/-- The whole body. -/
theorem body_run :
    iprop(Base X k wp' K ∗ Pre X k wp' c)
      ⊢ wp frame (wpE (defs₀ (F := F)) 𝒱₀ (c : Thread nD τ) none) Set.univ (bodySegs (F := F))
        (fun _ => iprop(Between X k wp' c 14 ∗ atPos ER (barCell c) 1 ∅ 0)) := by
  unfold bodySegs
  refine ownNumber c ?_
  refine segThen X k wp' K c (open_seg X k wp' K c _ _ _ _ (by revert c; decide) (by revert c; decide) (by revert c; decide) (by revert c; decide)) ?_
  refine segThen X k wp' K c (firstA_seg X k wp' K c) ?_
  refine segThen X k wp' K c (firstB_seg X k wp' K c) ?_
  refine segThen X k wp' K c (segR X k wp' K c (sum_seg X k wp' K c 0 _ _ _ _ (by revert c; decide) (by revert c; decide) (by revert c; decide) (by revert c; decide))) ?_
  refine segThen X k wp' K c (segR X k wp' K c (sum_seg X k wp' K c 1 _ _ _ _ (by revert c; decide) (by revert c; decide) (by revert c; decide) (by revert c; decide))) ?_
  refine segThen X k wp' K c (segR X k wp' K c (sum_seg X k wp' K c 2 _ _ _ _ (by revert c; decide) (by revert c; decide) (by revert c; decide) (by revert c; decide))) ?_
  refine segThen X k wp' K c (segR X k wp' K c (sum_seg X k wp' K c 3 _ _ _ _ (by revert c; decide) (by revert c; decide) (by revert c; decide) (by revert c; decide))) ?_
  refine segThen X k wp' K c (segR X k wp' K c (sum_seg X k wp' K c 4 _ _ _ _ (by revert c; decide) (by revert c; decide) (by revert c; decide) (by revert c; decide))) ?_
  refine segThen X k wp' K c (segR X k wp' K c (sum_seg X k wp' K c 5 _ _ _ _ (by revert c; decide) (by revert c; decide) (by revert c; decide) (by revert c; decide))) ?_
  refine segThen X k wp' K c (segR X k wp' K c (sum_seg X k wp' K c 6 _ _ _ _ (by revert c; decide) (by revert c; decide) (by revert c; decide) (by revert c; decide))) ?_
  refine segThen X k wp' K c (segR X k wp' K c (gather_seg X k wp' K c 0 7 rfl _ _ (by revert c; decide) (by revert c; decide))) ?_
  refine segThen X k wp' K c (segR X k wp' K c (credit_seg X k wp' K c 8 (by decide) _ _ (by revert c; decide) (by revert c; decide))) ?_
  refine segThen X k wp' K c (segR X k wp' K c (gather_seg X k wp' K c 1 8 rfl _ _ (by revert c; decide) (by revert c; decide))) ?_
  refine segThen X k wp' K c (segR X k wp' K c (credit_seg X k wp' K c 9 (by decide) _ _ (by revert c; decide) (by revert c; decide))) ?_
  refine segThen X k wp' K c (segR X k wp' K c (gather_seg X k wp' K c 2 9 rfl _ _ (by revert c; decide) (by revert c; decide))) ?_
  refine segThen X k wp' K c (segR X k wp' K c (credit_seg X k wp' K c 10 (by decide) _ _ (by revert c; decide) (by revert c; decide))) ?_
  refine segThen X k wp' K c (segR X k wp' K c (gather_seg X k wp' K c 3 10 rfl _ _ (by revert c; decide) (by revert c; decide))) ?_
  refine segThen X k wp' K c (segR X k wp' K c (credit_seg X k wp' K c 11 (by decide) _ _ (by revert c; decide) (by revert c; decide))) ?_
  refine segThen X k wp' K c (segR X k wp' K c (gather_seg X k wp' K c 4 11 rfl _ _ (by revert c; decide) (by revert c; decide))) ?_
  refine segThen X k wp' K c (segR X k wp' K c (credit_seg X k wp' K c 12 (by decide) _ _ (by revert c; decide) (by revert c; decide))) ?_
  refine segThen X k wp' K c (segR X k wp' K c (gather_seg X k wp' K c 5 12 rfl _ _ (by revert c; decide) (by revert c; decide))) ?_
  refine segThen X k wp' K c (segR X k wp' K c (credit_seg X k wp' K c 13 (by decide) _ _ (by revert c; decide) (by revert c; decide))) ?_
  exact segR X k wp' K c (gather_seg X k wp' K c 6 13 rfl _ _ (by revert c; decide) (by revert c; decide))

end

end Cert.KernelIdeal.Conv

end
-- ==== Proof.Out.lean ====
/- The result cut into the chunks of the two sides and put together again, and the finished sums. -/
module

public import proofs.«01_k».proof.Proof.Walk

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The chunks of the result -/

/-- The chunks of both sides. -/
def cuts (p : Bool × Fin 8) : Rect S4x2048x1024 := Rect.unit (s := S4x2048x1024) (off p.1 p.2) S2x256x1024.size (off_in p.1 p.2)

theorem cuts_stride (p : Bool × Fin 8) (a) : (cuts p).stride a = 1 := rfl

theorem mem_cuts (s : Bool) (j : Fin 8) (i : S4x2048x1024.Idx) :
    i ∈ (cuts (s, j)).set ↔ s = decide (2 ≤ (i 0).val) ∧ j.val = (i 1).val / 256 := by
  have h0 : (i 0).val < 4 := (i 0).isLt
  have h1 : (i 1).val < 2048 := (i 1).isLt
  unfold cuts; rw [Rect.mem_set_unit]
  constructor
  · intro h
    have a0 := h 0
    have a1 := h 1
    cases s
    · change 0 ≤ (i 0).val ∧ (i 0).val < 0 + 2 at a0
      change 256 * j.val ≤ (i 1).val ∧ (i 1).val < 256 * j.val + 256 at a1
      exact ⟨(decide_eq_false (by omega)).symm, by omega⟩
    · change 2 ≤ (i 0).val ∧ (i 0).val < 2 + 2 at a0
      change 256 * j.val ≤ (i 1).val ∧ (i 1).val < 256 * j.val + 256 at a1
      exact ⟨(decide_eq_true (by omega)).symm, by omega⟩
  · rintro ⟨rfl, hj⟩ a
    match a with
    | 0 =>
      by_cases h2 : 2 ≤ (i 0).val
      · show (if decide (2 ≤ (i 0).val) = true then 2 else 0) ≤ (i 0).val ∧ (i 0).val < (if decide (2 ≤ (i 0).val) = true then 2 else 0) + 2
        rw [if_pos (decide_eq_true h2)]; omega
      · show (if decide (2 ≤ (i 0).val) = true then 2 else 0) ≤ (i 0).val ∧ (i 0).val < (if decide (2 ≤ (i 0).val) = true then 2 else 0) + 2
        rw [if_neg (by simpa using h2)]; omega
    | 1 => show 256 * j.val ≤ (i 1).val ∧ (i 1).val < 256 * j.val + 256; omega
    | 2 => exact ⟨Nat.zero_le _, by have := (i 2).isLt; show (i 2).val < 0 + 1024; simpa using this⟩

theorem cuts_disj (p p' : Bool × Fin 8) (h : p ≠ p') : Disjoint (cuts p).set (cuts p').set :=
  Finset.disjoint_left.mpr fun i h1 h2 => by
    obtain ⟨s, j⟩ := p; obtain ⟨s', j'⟩ := p'
    rw [mem_cuts] at h1 h2
    exact h (Prod.ext (h1.1.trans h2.1.symm) (Fin.ext (h1.2.trans h2.2.symm)))

/-- Which chunk an index lies in. -/
def chunkOf (i : S4x2048x1024.Idx) : Fin 8 := ⟨(i 1).val / 256, by have : (i 1).val < 2048 := (i 1).isLt; omega⟩
/-- And where in it. -/
def inChunk (i : S4x2048x1024.Idx) : S2x256x1024.Idx :=
  ix3 (d := ![2, 256, 1024]) ⟨(i 0).val % 2, Nat.mod_lt _ (by decide)⟩ ⟨(i 1).val % 256, Nat.mod_lt _ (by decide)⟩ (i 2)

theorem cuts_cover : (Finset.univ : Finset (Bool × Fin 8)).biUnion (fun p => (cuts p).set) = Finset.univ := by
  ext i
  simp only [Finset.mem_biUnion, Finset.mem_univ, true_and, iff_true]
  exact ⟨(decide (2 ≤ (i 0).val), chunkOf i), (mem_cuts _ _ i).mpr ⟨rfl, rfl⟩⟩

/-- The result from its chunks. -/
def whole (w : Bool → Fin 8 → Vec F S2x256x1024 .f32) : Vec F S4x2048x1024 .f32 := fun i =>
  w (decide (2 ≤ (i 0).val)) (chunkOf i) (inChunk i)

theorem whole_cut (w : Bool → Fin 8 → Vec F S2x256x1024 .f32) (s : Bool) (j : Fin 8) : (fun i => whole w ((cuts (s, j)).emb i)) = w s j := by
  funext i
  have hi : (cuts (s, j)).emb i ∈ (cuts (s, j)).set := (cuts (s, j)).map_emb_univ ▸ Finset.mem_map_of_mem _ (Finset.mem_univ i)
  obtain ⟨h1, h2⟩ := (mem_cuts s j _).mp hi
  unfold whole
  rw [← h1, show chunkOf ((cuts (s, j)).emb i) = j from Fin.ext h2.symm]
  have b0 : (i 0).val < 2 := (i 0).isLt
  have b1 : (i 1).val < 256 := (i 1).isLt
  refine congrArg (w s j) (funext fun a => ?_)
  match a with
  | 0 =>
    cases s
    · exact Fin.ext (by show (0 + 1 * (i 0).val) % 2 = (i 0).val; omega)
    · exact Fin.ext (by show (2 + 1 * (i 0).val) % 2 = (i 0).val; omega)
  | 1 => exact Fin.ext (by show (256 * j.val + 1 * (i 1).val) % 256 = (i 1).val; omega)
  | 2 => exact Fin.ext (by show 0 + 1 * (i 2).val = (i 2).val; omega)

/-- The result held is every chunk held. -/
theorem out_split (c : Dev nD) (v : Vec F S4x2048x1024 .f32) :
    Held oM c v ⊢ iprop((∃ w : Fin 8 → Vec F S2x256x1024 .f32, bigSep Finset.univ fun j => Held (oAt false j) c (w j))
      ∗ (∃ w : Fin 8 → Vec F S2x256x1024 .f32, bigSep Finset.univ fun j => Held (oAt true j) c (w j))) := by
  refine (owns_rects (c : Thread nD τ) oM fullShare cuts cuts_stride cuts_disj cuts_cover v).trans ?_
  rw [bigSep_univ_prod, bigSep_bool]
  iintro ⟨H0, H1⟩
  isplitl [H0]
  · iexists fun j i => v ((cuts (false, j)).emb i); iexact H0
  · iexists fun j i => v ((cuts (true, j)).emb i); iexact H1

theorem out_join (c : Dev nD) (w : Bool → Fin 8 → Vec F S2x256x1024 .f32) :
    iprop((bigSep Finset.univ fun j => Held (oAt false j) c (w false j)) ∗ (bigSep Finset.univ fun j => Held (oAt true j) c (w true j)))
      ⊢ Held oM c (whole w) := by
  refine BIBase.Entails.trans ?_ (owns_of_rects (c : Thread nD τ) oM fullShare cuts cuts_stride cuts_disj cuts_cover (whole w))
  rw [bigSep_univ_prod, bigSep_bool]
  simp only [whole_cut]
  iintro ⟨H0, H1⟩
  isplitl [H0]; · iexact H0
  iexact H1

/-! ## The finished sums -/

section
variable (B : Bool → Dev nD → Fin 8 → Vec F S2x256x1024 .f32)

/-- The finished sum of a chunk. -/
def total (s : Bool) (j : Fin 8) : Vec F S2x256x1024 .f32 := V B s 7 (fr s j)

theorem fr_ch (s : Bool) (c : Dev nD) : fr s (ch s c 7) = c := by revert s c; decide

theorem V_total (s : Bool) (u : ℕ) (h7 : 7 ≤ u) (h14 : u ≤ 14) : ∀ c : Dev nD, V B s u c = total B s (ch s c u) := by
  induction u, h7 using Nat.le_induction with
  | base => intro c; unfold total; rw [fr_ch]
  | succ u hu ih =>
    intro c
    rw [V, if_neg (by omega), ih (by omega), ch_fr s c u (by omega)]

/-- The transfer after which a device has the finished sum of a chunk. -/
theorem ch_onto (s : Bool) (c : Dev nD) (j : Fin 8) : ∃ u : Fin 15, 7 ≤ u.val ∧ ch s c u.val = j := by revert s c j; decide

theorem chunks_done (s : Bool) (c : Dev nD) : Chunks B s c 14 ⊢ bigSep Finset.univ fun j => Held (oAt s j) c (total B s j) := by
  unfold Chunks
  iintro ⟨%v, %hv, H⟩
  have e : v = total B s := funext fun j => by
    obtain ⟨u, hu, rfl⟩ := ch_onto s c j
    rw [hv.2 u.val hu (by omega), V_total B s u.val hu (by omega)]
  subst e
  iexact H

end

end Cert.KernelIdeal.Conv

end
-- ==== Proof.Launch.lean ====
/- The launch: every device's cells allocated and their tokens dealt, the body's obligation at the grid's point, and the
   run of the whole program with what it leaves in memory. -/
module

public import proofs.«01_k».proof.Proof.Ride
public import proofs.«01_k».proof.Proof.Out

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

/-! ## The cells and their tokens -/

/-- The kernel's own semaphores. -/
abbrev osem : Fin 10 → SemLoc sig
  | 0 => .dma cc0_scratch6.sem
  | 1 => .dma cc0_scratch7.sem
  | 2 => .dma cc0_scratch8.sem
  | 3 => .dma cc0_scratch9.sem
  | 4 => .dma (sendS false)
  | 5 => .dma (recvS false)
  | 6 => .dma (sendS true)
  | 7 => .dma (recvS true)
  | 8 => .reg (credS false)
  | 9 => .reg (credS true)

theorem ownSemFacts : Pipeline.OwnSemFacts cfg0.spec osem := by decide

theorem csem_injective : Function.Injective csem := by decide

theorem kcell_injective : Function.Injective (kcell : Dev nD × Ck → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- A token for each cell, round and duty. -/
abbrev tokOf (x : (Dev nD × Ck) × Fin 14 × Bool) : GSem nD τ sig × ℕ × Bool := (kcell x.1, x.2.1.val, x.2.2)

theorem tokOf_injective : Function.Injective tokOf := by
  rintro ⟨ck, u, b⟩ ⟨ck', u', b'⟩ h
  have h1 : ck = ck' := kcell_injective (congrArg Prod.fst h)
  have h2 : u = u' := Fin.ext (congrArg (fun x : GSem nD τ sig × ℕ × Bool => x.2.1) h)
  have h3 : b = b' := congrArg (fun x : GSem nD τ sig × ℕ × Bool => x.2.2) h
  rw [h1, h2, h3]

def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

theorem bigSep_ck (Φ : Ck → sProp (MT nD τ sig ℕ (Elt F) ℕ UU ℕ)) :
    bigSep Finset.univ Φ = iprop(Φ none ∗ Φ (some (0, false)) ∗ Φ (some (1, false)) ∗ Φ (some (2, false))
      ∗ Φ (some (0, true)) ∗ Φ (some (1, true)) ∗ Φ (some (2, true))) :=
  bigSep_univ_eq_bigSepL [none, some (0, false), some (1, false), some (2, false), some (0, true), some (1, true), some (2, true)]
    (by decide) (by decide) Φ

/-- The tokens of every round of one of a device's cells. -/
def tk (k : Fin 3) (s : Bool) (c : Dev nD) : sProp (MT nD τ sig ℕ (Elt F) ℕ UU ℕ) :=
  bigSep (Finset.Ico 0 14) fun u => dutyTok ER (kcell (c, some (k, s))) u false

/-- The tokens of a device's own cells. -/
def toks (c : Dev nD) : sProp (MT nD τ sig ℕ (Elt F) ℕ UU ℕ) :=
  iprop(dutyTok ER (barCell c) 0 false ∗ dutyTok ER (barCell c) 0 true ∗ (tk (F := F) 0 false c ∗ tk (F := F) 1 false c ∗ tk (F := F) 2 false c)
    ∗ tk (F := F) 0 true c ∗ tk (F := F) 1 true c ∗ tk (F := F) 2 true c)

/-- The tokens of the duties a device pays. -/
def payToks (c : Dev nD) : sProp (MT nD τ sig ℕ (Elt F) ℕ UU ℕ) :=
  iprop(dutyTok ER (barCell (fr false c)) 0 false ∗ dutyTok ER (barCell (fr true c)) 0 true
    ∗ (tk (F := F) 0 false (fr false c) ∗ tk (F := F) 1 false c ∗ tk (F := F) 2 false (tgt false c))
    ∗ tk (F := F) 0 true (fr true c) ∗ tk (F := F) 1 true c ∗ tk (F := F) 2 true (tgt true c))

theorem rounds_zero (Φ : ℕ → Bool → sProp (MT nD τ sig ℕ (Elt F) ℕ UU ℕ)) :
    (bigSep Finset.univ fun ub : Fin 14 × Bool => Φ ub.1.val ub.2) ⊢ iprop(Φ 0 false ∗ Φ 0 true) := by
  rw [bigSep_univ_prod (fun ub : Fin 14 × Bool => Φ ub.1.val ub.2)]
  simp only [bigSep_bool]
  exact bigSep_elim (Finset.mem_univ (0 : Fin 14))

theorem rounds_all (Φ : ℕ → Bool → sProp (MT nD τ sig ℕ (Elt F) ℕ UU ℕ)) :
    (bigSep Finset.univ fun ub : Fin 14 × Bool => Φ ub.1.val ub.2) ⊢ bigSep (Finset.Ico 0 14) fun u => Φ u false := by
  rw [bigSep_univ_prod (fun ub : Fin 14 × Bool => Φ ub.1.val ub.2)]
  simp only [bigSep_bool]
  have e : Finset.Ico 0 14 = (Finset.univ : Finset (Fin 14)).map Fin.valEmbedding := by decide
  rw [e, bigSep_map]
  exact bigSep_mono fun u _ => (show iprop(Φ u.val false ∗ Φ u.val true) ⊢ Φ u.val false from sep_elim_left)

theorem toks_of (c : Dev nD) :
    (bigSep Finset.univ fun k : Ck => bigSep Finset.univ fun ub : Fin 14 × Bool => (dutyTok ER (kcell (c, k)) ub.1.val ub.2 : sProp 𝕄)) ⊢ toks c := by
  rw [bigSep_ck]
  unfold toks tk
  have h0 (k : Ck) := rounds_zero (F := F) (fun u b => dutyTok ER (kcell (c, k)) u b)
  have hr (k : Ck) := rounds_all (F := F) (fun u b => dutyTok ER (kcell (c, k)) u b)
  iintro ⟨H0, H1, H2, H3, H4, H5, H6⟩
  ihave H0 := (h0 none) $$ H0
  ihave H1 := (hr _) $$ H1
  ihave H2 := (hr _) $$ H2
  ihave H3 := (hr _) $$ H3
  ihave H4 := (hr _) $$ H4
  ihave H5 := (hr _) $$ H5
  ihave H6 := (hr _) $$ H6
  icases H0 with ⟨Hf, Ht⟩
  isplitl [Hf]; · iexact Hf
  isplitl [Ht]; · iexact Ht
  isplitl [H1 H2 H3]
  · isplitl [H1]; · iexact H1
    isplitl [H2] <;> iassumption
  isplitl [H4]; · iexact H4
  isplitl [H5] <;> iassumption

/-- The tokens dealt around the rings. -/
theorem toks_around : (bigSep Finset.univ fun c : Dev nD => (toks c : sProp 𝕄)) ⊢ bigSep Finset.univ fun c : Dev nD => payToks c := by
  unfold toks payToks
  simp only [bigSep_sep']
  rw [bigSep_univ_equiv (shift false).symm (fun c : Dev nD => (dutyTok ER (barCell c) 0 false : sProp 𝕄)),
    bigSep_univ_equiv (shift true).symm (fun c : Dev nD => (dutyTok ER (barCell c) 0 true : sProp 𝕄)),
    bigSep_univ_equiv (shift false).symm (fun c : Dev nD => (tk 0 false c : sProp 𝕄)),
    bigSep_univ_equiv (shift true).symm (fun c : Dev nD => (tk 0 true c : sProp 𝕄)),
    bigSep_univ_equiv (shift false) (fun c : Dev nD => (tk 2 false c : sProp 𝕄)),
    bigSep_univ_equiv (shift true) (fun c : Dev nD => (tk 2 true c : sProp 𝕄))]
  exact BI.Entails.refl _

/-! ## The launch's credit -/

/-- What a device owes from the start. -/
def O₀ (c : Dev nD) : CellTallies nD τ sig ℕ := (debt c 0 0 + tallyAt (barCell (fr true c)) 1 1) + tallyAt (barCell (fr false c)) 1 1

theorem cred_recv (c : Dev nD) (n : ℕ) (hn : n ≤ 14) :
    (Pipeline.launchCred (fun d => owedT d n) c : sProp 𝕄)
      ⊢ bigSep (Finset.Ico (14 - n) 14) fun u => iprop(cred (tallyAt (recvCell true c) (u + 1) N) ∗ cred (tallyAt (recvCell false c) (u + 1) N)) := by
  induction n with
  | zero => rw [show Finset.Ico (14 - 0) 14 = ∅ by decide, bigSep_empty]; exact Entails.of_eq (Pipeline.launchCred_zero c)
  | succ n ih =>
    rw [show (fun d => owedT d (n + 1)) = fun d => owedT d n + (tallyAt (recvCell true (tgt true d)) (13 - n + 1) N + tallyAt (recvCell false (tgt false d)) (13 - n + 1) N) from rfl,
      Pipeline.launchCred_add, Pipeline.launchCred_add, show 14 - (n + 1) = 13 - n by omega, ico_take _ (13 - n) (by omega), show 13 - n + 1 = 14 - n by omega]
    iintro ⟨H, HT, HF⟩
    ihave H := (ih (by omega)) $$ H
    ihave HT := (Pipeline.launchCred_tallyAt (.dma (recvS true)) (tgt true) (fr true) (tgt_fr true) (fr_tgt true) (14 - n) N c) $$ HT
    ihave HF := (Pipeline.launchCred_tallyAt (.dma (recvS false)) (tgt false) (fr false) (tgt_fr false) (fr_tgt false) (14 - n) N c) $$ HF
    isplitl [HT HF]
    · isplitl [HT] <;> iassumption
    · iexact H

theorem cred_credit (c : Dev nD) (n : ℕ) (hn : n ≤ 14) :
    (Pipeline.launchCred (fun d => owedC d n) c : sProp 𝕄)
      ⊢ bigSep (Finset.Ico (14 - n) 14) fun u => iprop(cred (tallyAt (credCell true c) (u + 1) 1) ∗ cred (tallyAt (credCell false c) (u + 1) 1)) := by
  induction n with
  | zero => rw [show Finset.Ico (14 - 0) 14 = ∅ by decide, bigSep_empty]; exact Entails.of_eq (Pipeline.launchCred_zero c)
  | succ n ih =>
    rw [show (fun d => owedC d (n + 1)) = fun d => owedC d n + (tallyAt (credCell true (fr true d)) (13 - n + 1) 1 + tallyAt (credCell false (fr false d)) (13 - n + 1) 1) from rfl,
      Pipeline.launchCred_add, Pipeline.launchCred_add, show 14 - (n + 1) = 13 - n by omega, ico_take _ (13 - n) (by omega), show 13 - n + 1 = 14 - n by omega]
    iintro ⟨H, HT, HF⟩
    ihave H := (ih (by omega)) $$ H
    ihave HT := (Pipeline.launchCred_tallyAt (.reg (credS true)) (fr true) (tgt true) (fr_tgt true) (tgt_fr true) (14 - n) 1 c) $$ HT
    ihave HF := (Pipeline.launchCred_tallyAt (.reg (credS false)) (fr false) (tgt false) (fr_tgt false) (tgt_fr false) (14 - n) 1 c) $$ HF
    isplitl [HT HF]
    · isplitl [HT] <;> iassumption
    · iexact H

/-- The credit of one side's transfers. -/
def sideCred (s : Bool) (c : Dev nD) : sProp (MT nD τ sig ℕ (Elt F) ℕ UU ℕ) :=
  iprop((bigSep (Finset.Ico 0 14) fun u => cred (tallyAt (credCell s c) (u + 1) 1)) ∗ bigSep (Finset.Ico 0 14) fun u => cred (tallyAt (recvCell s c) (u + 1) N))

theorem creds (c : Dev nD) :
    (Pipeline.launchCred O₀ c : sProp 𝕄) ⊢ iprop(cred (tallyAt (barCell c) 1 2) ∗ sideCred (F := F) false c ∗ sideCred (F := F) true c) := by
  rw [show O₀ = fun d => (fun e => (fun e' => (fun a => owedT a 14) e' + (fun a => owedC a 14) e') e + tallyAt (barCell (fr true e)) 1 1) d + tallyAt (barCell (fr false d)) 1 1 from rfl,
    Pipeline.launchCred_add, Pipeline.launchCred_add, Pipeline.launchCred_add]
  unfold sideCred
  iintro ⟨⟨⟨HT, HC⟩, H1⟩, H2⟩
  ihave HT := ((cred_recv (F := F) c 14 (le_refl _)).trans (Entails.of_eq (bigSep_sep' _ _ _))) $$ HT
  ihave HC := ((cred_credit (F := F) c 14 (le_refl _)).trans (Entails.of_eq (bigSep_sep' _ _ _))) $$ HC
  ihave H1 := (Pipeline.launchCred_tallyAt (.reg barS) (fr true) (tgt true) (fr_tgt true) (tgt_fr true) 1 1 c) $$ H1
  ihave H2 := (Pipeline.launchCred_tallyAt (.reg barS) (fr false) (tgt false) (fr_tgt false) (tgt_fr false) 1 1 c) $$ H2
  icases HT with ⟨TT, TF⟩
  icases HC with ⟨CT, CF⟩
  isplitl [H1 H2]
  · rw [← tallyAt_add (barCell c) 1 1 1]
    iapply (cred_add _ _).2
    isplitl [H1] <;> iassumption
  isplitl [CF TF]
  · isplitl [CF] <;> iassumption
  · isplitl [CT] <;> iassumption

theorem O₀_pos {c : Dev nD} {g : GSem nD τ sig} {u : ℕ} (h : 0 < O₀ c g u) :
    (∃ d : Dev nD, ∃ sm, g = ((d : Thread nD τ), sm)) ∧ u ≤ 14 ∧ 0 < lv g u := by
  rcases add_pos' h with h | h
  · rcases add_pos' h with h | h
    · obtain ⟨h1, h2, -, h4⟩ := debt_pos h
      exact ⟨h1, h2, by omega⟩
    · obtain ⟨rfl, rfl⟩ := tallyAt_pos h
      exact ⟨⟨_, _, rfl⟩, by decide, by unfold lv; rw [if_neg (by decide), role_bar]; decide⟩
  · obtain ⟨rfl, rfl⟩ := tallyAt_pos h
    exact ⟨⟨_, _, rfl⟩, by decide, by unfold lv; rw [if_neg (by decide), role_bar]; decide⟩

theorem mayWait_stage (c : Dev nD) (sm : SemLoc sig) (O : CellTallies nD τ sig ℕ) (hO : O = O₀ c ∨ O = 0) :
    (levAts L lv : sProp 𝕄) ⊢ MayWait (c : Thread nD τ) sm 0 O := by
  rcases hO with rfl | rfl
  · exact MayOwe.of_cut (L := L) (lev := lv) 0
      (fun p hp => by rw [Finset.mem_singleton.mp hp, L_tc]; show 0 ∈ Finset.range 16; decide)
      (fun g v hg => by
        obtain ⟨⟨d, sm', rfl⟩, h3, -⟩ := O₀_pos hg
        rw [L_tc]; exact Finset.mem_range.mpr (by omega))
      (fun p hp => by rw [Finset.mem_singleton.mp hp]; exact le_of_eq (if_pos rfl))
      (fun g v hg => (O₀_pos hg).2.2)
  · rw [MayWait_zero]; iintro -; iempintro

end Cert.KernelIdeal.Conv

end
-- ==== Proof.Deal.lean ====
/- The launch's own ghost state: the cells of all devices allocated together, and what each device is dealt. -/
module

public import proofs.«01_k».proof.Proof.Launch

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (B : Bool → Dev nD → Fin 8 → Vec F S2x256x1024 .f32)

/-- The semaphores of the kernel's own copies. -/
def locals (c : Dev nD) : sProp (MT nD τ sig ℕ (Elt F) ℕ UU ℕ) :=
  iprop(semVal ((c : Thread nD τ), SemLoc.dma cc0_scratch6.sem) 0 ∗ semVal ((c : Thread nD τ), SemLoc.dma cc0_scratch7.sem) 0
    ∗ semVal ((c : Thread nD τ), SemLoc.dma cc0_scratch8.sem) 0 ∗ semVal ((c : Thread nD τ), SemLoc.dma cc0_scratch9.sem) 0)

/-- What a device holds of its own cells at the start. -/
def heads (c : Dev nD) : sProp (MT nD τ sig ℕ (Elt F) ℕ UU ℕ) :=
  bigSep Finset.univ fun k : Ck => atPos ER (kcell (c, k)) 0 ∅ 0

/-- That every cell is at its first round. -/
def firsts : sProp (MT nD τ sig ℕ (Elt F) ℕ UU ℕ) := bigSep Finset.univ fun ck : Dev nD × Ck => reached ER (kcell ck) 0

instance firsts_persistent : BI.Persistent (firsts (F := F)) := by unfold firsts; infer_instance

theorem first_at (ck : Dev nD × Ck) : (firsts : sProp 𝕄) ⊢ reached ER (kcell ck) 0 := by
  unfold firsts; exact bigSep_elim (Finset.mem_univ ck)

/-- What the launch deals a device. -/
def G (c : Dev nD) : sProp (MT nD τ sig ℕ (Elt F) ℕ UU ℕ) :=
  iprop((bigSep Finset.univ fun k : Ck => roundState ER (Rd B) (kcell (c, k)) 0)
    ∗ (bigSep Finset.univ fun k : Ck => iprop(atPos ER (kcell (c, k)) 0 ∅ 0 ∗ reached ER (kcell (c, k)) 0)) ∗ toks c)

/-- What the devices make of it together. -/
def G' (c : Dev nD) : sProp (MT nD τ sig ℕ (Elt F) ℕ UU ℕ) :=
  iprop((∃ K, recs B K) ∗ firsts (F := F) ∗ heads (F := F) c ∗ payToks (F := F) c ∗ locals (F := F) c)

theorem fund_ring : BI.own (ER (initOf ringCells ringToks)) ⊢ (|==> bigSep Finset.univ (G B) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄))
      ⊢ bigSep Finset.univ fun c : Dev nD => toks c := by
    unfold ringToks; rw [bigSep_map, bigSep_univ_prod, bigSep_univ_prod]
    exact bigSep_mono fun c _ => toks_of c
  iintro HX
  imod (Rounds.fund ER (Rd B) ringCells ringToks) $$ HX with ⟨Hst, Hr, Hat, Htok⟩
  imodintro
  ihave Hst' := (Entails.of_eq (hX fun g => roundState ER (Rd B) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = iprop(semVal ((c : Thread nD τ), SemLoc.dma cc0_scratch6.sem) 0 ∗ semVal ((c : Thread nD τ), SemLoc.dma cc0_scratch7.sem) 0
      ∗ semVal ((c : Thread nD τ), SemLoc.dma cc0_scratch8.sem) 0 ∗ semVal ((c : Thread nD τ), SemLoc.dma cc0_scratch9.sem) 0
      ∗ semVal (sendCell false c) 0 ∗ semVal (recvCell false c) 0 ∗ semVal (sendCell true c) 0 ∗ semVal (recvCell true c) 0
      ∗ semVal (credCell false c) 0 ∗ semVal (credCell true c) 0) := by
  rw [Pipeline.ownSems0_eq_of_list c osem [0, 1, 2, 3, 4, 5, 6, 7, 8, 9] (by decide) (by decide)]; rfl

/-- The barrier's semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's seven cells' counters, apart from the four of its own copies. -/
theorem cells_of_sems (c : Dev nD) : (iprop(Pipeline.ownSems0 (Ix := ℕ) (Name := ℕ) (U := UU) (Lvl := ℕ) (Val := Elt F) (τ := τ) osem c ∗ unscopedSems0 c) : sProp 𝕄)
    ⊢ iprop(locals (F := F) c ∗ bigSep Finset.univ fun k : Ck => semVal (kcell (c, k)) 0) := by
  rw [ownSems0_eq, unscopedSems0_eq, bigSep_ck]
  unfold locals
  iintro ⟨⟨H6, H7, H8, H9, S0, R0, S1, R1, C0, C1⟩, HB⟩
  isplitl [H6 H7 H8 H9]
  · isplitl [H6]; · iexact H6
    isplitl [H7]; · iexact H7
    isplitl [H8] <;> iassumption
  isplitl [HB]; · iexact HB
  isplitl [C0]; · iexact C0
  isplitl [S0]; · iexact S0
  isplitl [R0]; · iexact R0
  isplitl [C1]; · iexact C1
  isplitl [S1] <;> iassumption

theorem sems_of_cells (c : Dev nD) : (iprop(locals (F := F) c ∗ bigSep Finset.univ fun k : Ck => semVal (kcell (c, k)) 0) : sProp 𝕄)
    ⊢ iprop(Pipeline.ownSems0 (Ix := ℕ) (Name := ℕ) (U := UU) (Lvl := ℕ) (Val := Elt F) (τ := τ) osem c ∗ unscopedSems0 c) := by
  rw [ownSems0_eq, unscopedSems0_eq, bigSep_ck]
  unfold locals
  iintro ⟨⟨H6, H7, H8, H9⟩, HB, C0, S0, R0, C1, S1, R1⟩
  isplitr [HB]
  · isplitl [H6]; · iexact H6
    isplitl [H7]; · iexact H7
    isplitl [H8]; · iexact H8
    isplitl [H9]; · iexact H9
    isplitl [S0]; · iexact S0
    isplitl [R0]; · iexact R0
    isplitl [S1]; · iexact S1
    isplitl [R1]; · iexact R1
    isplitl [C0] <;> iassumption
  iexact HB

theorem core_alloc (c : Dev nD) :
    iprop(Pipeline.ownSems0 (Ix := ℕ) (Name := ℕ) (U := UU) (Lvl := ℕ) (Val := Elt F) (τ := τ) osem c ∗ unscopedSems0 c ∗ G B c)
      ⊢ |={Set.univ}=> iprop((bigSep Finset.univ fun k => iprop(∃ κ : ℕ, cellInv ER (Rd B) κ (kcell (c, k))))
          ∗ (bigSep Finset.univ fun k => iprop(atPos ER (kcell (c, k)) 0 ∅ 0 ∗ reached ER (kcell (c, k)) 0)) ∗ toks (F := F) c ∗ locals (F := F) c) := by
  unfold G
  iintro ⟨Hos, Hus, Hst, Hat, Htok⟩
  ihave Hv := (cells_of_sems (F := F) c) $$ [Hos Hus]
  · isplitl [Hos] <;> iassumption
  icases Hv with ⟨Hl, Hv⟩
  imod (show iprop((bigSep Finset.univ fun k : Ck => semVal (kcell (c, k)) 0) ∗ bigSep Finset.univ fun k : Ck => roundState ER (Rd B) (kcell (c, k)) 0)
      ⊢ (|={Set.univ}=> bigSep Finset.univ fun k => iprop(∃ κ : ℕ, cellInv ER (Rd B) κ (kcell (c, k))) : sProp 𝕄) from by
        rw [← bigSep_sep']
        exact (bigSep_mono fun k _ => (Rounds.body_intro ER (Rd B) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem beside {I : Type} [DecidableEq I] {S : Finset I} {R : sProp (MT nD τ sig ℕ (Elt F) ℕ UU ℕ)} [BI.Persistent R]
    {Φ Ψ : I → sProp (MT nD τ sig ℕ (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd B) κ (kcell (c, k))))
          ∗ (bigSep Finset.univ fun k => iprop(atPos ER (kcell (c, k)) 0 ∅ 0 ∗ reached ER (kcell (c, k)) 0)) ∗ toks (F := F) c ∗ locals (F := F) c) : sProp 𝕄)
      ⊢ bigSep Finset.univ (G' B) := by
  rw [bigSep_sep', bigSep_sep', bigSep_sep', ← bigSep_univ_prod (fun ck : Dev nD × Ck => iprop(∃ κ : ℕ, cellInv ER (Rd B) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok, Hloc⟩
  ihave HK := (BI.bigSep_exists_pi Finset.univ (fun (ck : Dev nD × Ck) (κ : ℕ) => (cellInv ER (Rd B) κ (kcell ck) : sProp 𝕄))) $$ HI
  icases HK with ⟨%K, #HI⟩
  ihave Htk := (toks_around (F := F)) $$ Htok
  iapply (beside (R := iprop(recs B K ∗ firsts (F := F))) (Φ := fun c => iprop(heads (F := F) c ∗ payToks (F := F) c ∗ locals (F := F) c)) fun c _ => by
    unfold G'
    iintro ⟨⟨#HI, #HR⟩, HH, HP, HL⟩
    isplitr; · iexists K; iexact HI
    isplitr; · iexact HR
    isplitl [HH]; · iexact HH
    isplitl [HP] <;> iassumption)
  isplitr
  · unfold recs firsts; isplitl; · iexact HI
    iexact HR
  · simp only [bigSep_sep']
    isplitl [Hat]; · unfold heads; iexact Hat
    isplitl [Htk] <;> iassumption

/-- Every device's cells allocated at once. -/
theorem glob : (bigSep Finset.univ fun c => iprop(Pipeline.ownSems0 (Ix := ℕ) (Name := ℕ) (U := UU) (Lvl := ℕ) (Val := Elt F) (τ := τ) osem c ∗ unscopedSems0 c ∗ G B c) : sProp 𝕄)
    ⊢ |={Set.univ}=> bigSep Finset.univ (G' B) :=
  ((bigSep_mono fun c _ => core_alloc B c).trans (bigSep_fupd _ _)).trans (BI.fupd_mono (regroup B))

end Cert.KernelIdeal.Conv

end
-- ==== Proof.Point.lean ====
/- The body's obligation at the grid's one point: from what the launch deals a device to what the run leaves there. -/
module

public import proofs.«01_k».proof.Proof.Deal
public import Idealize.ShloMosaic.Lib.Pipeline.FrameBody

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The memory before the run. -/
def s₀ : MemSt nD τ sig (Elt F) := ⟨m, fun _ => 0, ρ⟩

/-- The devices' inputs, filters and weights, as memory holds them. -/
def xOf (c : Dev nD) : Vec F S4x2048x1024 .f32 := m ((c : Thread nD τ).loc main_arg0)
def kOf (c : Dev nD) : Vec F S4x1024 .f32 := (win0_0.blk t0_0).view.read (Elt F) (m ((c : Thread nD τ).loc main_arg1))
def wOf (c : Dev nD) : Vec F S1024x1024 .f32 := (win0_1.blk t0_0).view.read (Elt F) (m ((c : Thread nD τ).loc main_arg2))

/-- The devices' block products. -/
abbrev BB : Bool → Dev nD → Fin 8 → Vec F S2x256x1024 .f32 := Bk (xOf m) (kOf m) (wOf m)
/-- What the run leaves in every device's result. -/
def result : Vec F S4x2048x1024 .f32 := whole (total (BB m))

/-! ## What a device starts from, and what it ends with -/

/-- A side at the start, its chunks apart. -/
def Side0 (s : Bool) (c : Dev nD) : sProp (MT nD τ sig ℕ (Elt F) ℕ UU ℕ) :=
  iprop(bigSep (Finset.Ico 0 14) (stock (F := F) s c) ∗ atPos ER (credCell s c) 0 ∅ 0 ∗ atPos ER (recvCell s c) 0 ∅ 0
    ∗ atPos ER (sendCell s c) 0 ∅ 0 ∗ reached ER (sendCell s c) 0 ∗ reached ER (recvCell s c) 0 ∗ reached ER (credCell s (fr s c)) 0
    ∗ Credits (F := F) s c 0)

/-- The opening at the start, its debt apart. -/
def Gate0 (c : Dev nD) : sProp (MT nD τ sig ℕ (Elt F) ℕ UU ℕ) :=
  iprop(cred (tallyAt (barCell c) 1 2) ∗ atPos ER (barCell c) 0 ∅ 0
    ∗ dutyTok ER (barCell (fr false c)) 0 false ∗ reached ER (barCell (fr false c)) 0
    ∗ dutyTok ER (barCell (fr true c)) 0 true ∗ reached ER (barCell (fr true c)) 0)

/-- What a device's body starts from. -/
def start (c : Dev nD) : sProp (MT nD τ sig ℕ (Elt F) ℕ UU ℕ) :=
  iprop((∃ K, Base (xOf m) (kOf m) (wOf m) K) ∗ Gate0 (F := F) c ∗ Side0 (F := F) false c ∗ Side0 (F := F) true c ∗ locals (F := F) c
    ∗ ((c : Thread nD τ).loc main_arg0 ↦{fullShare} m ((c : Thread nD τ).loc main_arg0))
    ∗ ((c : Thread nD τ).loc main_v1 ↦{fullShare} m ((c : Thread nD τ).loc main_v1)))

/-- What it leaves. -/
def finish (c : Dev nD) : sProp (MT nD τ sig ℕ (Elt F) ℕ UU ℕ) :=
  iprop(unscopedSems0 c ∗ ((c : Thread nD τ).loc main_arg0 ↦{fullShare} m ((c : Thread nD τ).loc main_arg0))
    ∗ ((c : Thread nD τ).loc main_v1 ↦{fullShare} result m))

/-- The scratch buffers and the input before the body, from what the launch holds. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => kOf m c
    | ⟨1, _⟩ => wOf m c
  Φ t := match t with
    | ⟨0, _⟩ => iprop(start m c ∗ Pipeline.scopedRest cfg0.spec c)
    | ⟨_ + 1, _⟩ => iprop(finish m c ∗ Pipeline.ownSems0 osem c ∗ Pipeline.scopedRest cfg0.spec c)
  q _ := fullShare
  owed t := match t with
    | ⟨0, _⟩ => O₀ c
    | ⟨_ + 1, _⟩ => 0

/-! ## The body between them -/

theorem held_whole (c : Dev nD) (b : Ref sig .tc) (f : b.ty.Contents (Elt F)) :
    (owns (Ix := ℕ) (Name := ℕ) (U := UU) (Lvl := ℕ) (c : Thread nD τ) (Memref.whole b) fullShare f : sProp 𝕄)
      = (((c : Thread nD τ).loc b) ↦{fullShare} f) := owns_whole _ _ _ _

theorem halves (c : Dev nD) (f : Buf (Elt F) ((c : Thread nD τ).loc main_arg0)) :
    (((c : Thread nD τ).loc main_arg0 ↦{fullShare} f) : sProp 𝕄)
      ⊣⊢ iprop(((c : Thread nD τ).loc main_arg0 ↦{qL} f) ∗ ((c : Thread nD τ).loc main_arg0 ↦{qR} f)) :=
  pointsTo_share (PosShare.mem_left_op_right fullShare)

theorem side_begin (s : Bool) (c : Dev nD) (w : Fin 8 → Vec F S2x256x1024 .f32) :
    iprop((bigSep Finset.univ fun j => Held (oAt s j) c (w j)) ∗ (∃ v, Held (rM s) c v) ∗ Side0 (F := F) s c)
      ⊢ iprop(Begin (F := F) c s ∗ Mid (F := F) s c 0 ∗ Credits (F := F) s c 0) := by
  unfold Side0 Begin Mid
  iintro ⟨Hw, Hr, Hst, Hc, Hv, Hs, Rs, Rv, Rc, HC⟩
  isplitl [Hw Hst Hc Hv Hs Rs]
  · isplitl [Hw]; · iexists w; iexact Hw
    isplitl [Hst]; · iexact Hst
    isplitl [Hc]; · iexact Hc
    isplitl [Hv]; · iexact Hv
    isplitl [Hs] <;> iassumption
  isplitl [Hr Rv Rc]
  · isplitl [Hr]; · iexact Hr
    isplitl [Rv] <;> iassumption
  iexact HC

/-- The body's first state. -/
theorem pre_intro (c : Dev nD) (W : Waits sig ℕ) :
    iprop(Gate0 (F := F) c ∗ Side0 (F := F) false c ∗ Side0 (F := F) true c ∗ locals (F := F) c
      ∗ ((c : Thread nD τ).loc main_arg0 ↦{fullShare} m ((c : Thread nD τ).loc main_arg0))
      ∗ ((c : Thread nD τ).loc main_v1 ↦{fullShare} m ((c : Thread nD τ).loc main_v1))
      ∗ Pipeline.scopedRest cfg0.spec c ∗ owes (c : Thread nD τ) (O₀ c) W ∗ Held kM c (kOf m c) ∗ Held wM c (wOf m c))
      ⊢ Pre (xOf m) (kOf m) (wOf m) c := by
  rw [show (Pipeline.scopedRest cfg0.spec c : sProp 𝕄) = _ from scopedRest0_eq c]
  unfold Pre Gate0 Gate locals Kit Tools
  iintro ⟨⟨HB, Ha, T0, R0, T1, R1⟩, S0, S1, ⟨H6, H7, H8, H9⟩, HX, HV, ⟨⟨%f0, B0⟩, ⟨%f1, B1⟩, ⟨%f2, B2⟩, ⟨%f3, B3⟩, ⟨%f4, B4⟩, ⟨%f5, B5⟩⟩, HO, Hk, Hw⟩
  ihave B0 := (Entails.of_eq (held_whole c cc0_scratch0 f0).symm) $$ B0
  ihave B1 := (Entails.of_eq (held_whole c cc0_scratch1 f1).symm) $$ B1
  ihave B2 := (Entails.of_eq (held_whole c cc0_scratch2 f2).symm) $$ B2
  ihave B3 := (Entails.of_eq (held_whole c cc0_scratch3 f3).symm) $$ B3
  ihave B4 := (Entails.of_eq (held_whole c cc0_scratch4 f4).symm) $$ B4
  ihave B5 := (Entails.of_eq (held_whole c cc0_scratch5 f5).symm) $$ B5
  ihave HV := (Entails.of_eq (held_whole c main_v1 (m ((c : Thread nD τ).loc main_v1))).symm) $$ HV
  ihave HV := (out_split c (m ((c : Thread nD τ).loc main_v1))) $$ HV
  icases HV with ⟨⟨%w0, V0⟩, %w1, V1⟩
  ihave HX := (halves c _).1 $$ HX
  icases HX with ⟨XL, XR⟩
  ihave S0 := (side_begin false c w0) $$ [V0 B4 S0]
  · isplitl [V0]; · iexact V0
    isplitl [B4]; · iexists f4; iexact B4
    iexact S0
  ihave S1 := (side_begin true c w1) $$ [V1 B5 S1]
  · isplitl [V1]; · iexact V1
    isplitl [B5]; · iexists f5; iexact B5
    iexact S1
  icases S0 with ⟨S0, M0, C0⟩
  icases S1 with ⟨S1, M1, C1⟩
  isplitl [HB Ha T0 R0 T1 R1 HO]
  · isplitl [HO]; · iexists W; iexact HO
    isplitl [HB]; · iexact HB
    isplitl [Ha]; · iexact Ha
    isplitl [T0]; · iexact T0
    isplitl [R0]; · iexact R0
    isplitl [T1] <;> iassumption
  isplitl [XL XR B0 B1 B2 B3 Hk Hw H6 H7 H8 H9]
  · isplitl [XL XR B0 B1 Hk Hw H7 H8 H9]
    · isplitl [XL]; · iexact XL
      isplitl [XR]; · iexact XR
      isplitl [B0]; · iexists f0; iexact B0
      isplitl [B1]; · iexists f1; iexact B1
      isplitl [Hk]; · iexact Hk
      isplitl [Hw]; · iexact Hw
      isplitl [H7]; · iexact H7
      isplitl [H8] <;> iassumption
    isplitl [B2]; · iexists f2; iexact B2
    isplitl [B3]; · iexists f3; iexact B3
    iexact H6
  isplitl [S0]; · iexact S0
  isplitl [S1]; · iexact S1
  isplitl [M0]; · iexact M0
  isplitl [M1]; · iexact M1
  isplitl [C0] <;> iassumption

theorem rounds_le (k : Ck) : rounds (role (csem k)) ≤ 14 := by revert k; decide
theorem rounds_bar : rounds (role (csem none)) ≤ 1 := by decide

theorem close_at (B : Bool → Dev nD → Fin 8 → Vec F S2x256x1024 .f32) (K : Dev nD × Ck → ℕ) (ck : Dev nD × Ck) (n : ℕ) (hn : rounds (role (kcell ck).2) ≤ n) :
    iprop(recs B K ∗ atPos ER (kcell ck) n ∅ 0) ⊢ |={Set.univ}=> semVal (kcell ck) 0 :=
  (sep_mono_left (recs_at B K ck)).trans
    (Rounds.cell_close ER (Rd B) (Set.mem_univ (K ck)) (fun h => h) (R := n) (duties_later B (kcell ck) n hn))

/-- A side closed: its three counters at zero, its landing buffer and its finished chunks. -/
theorem side_end (B : Bool → Dev nD → Fin 8 → Vec F S2x256x1024 .f32) (K : Dev nD × Ck → ℕ) (s : Bool) (c : Dev nD) :
    iprop(recs B K ∗ Side B s c 14 ∗ Mid (F := F) s c 14)
      ⊢ |={Set.univ}=> iprop((bigSep Finset.univ fun j => Held (oAt s j) c (total B s j)) ∗ (∃ v, Held (rM s) c v)
          ∗ semVal (credCell s c) 0 ∗ semVal (sendCell s c) 0 ∗ semVal (recvCell s c) 0) := by
  unfold Side Mid
  iintro ⟨#HR, ⟨Hc, -, Ac, Av, As, -⟩, Hr, -, -⟩
  ihave Hc := (chunks_done B s c) $$ Hc
  imod (close_at B K (c, some (0, s)) 14 (rounds_le (some (0, s)))) $$ [Ac] with Ac
  · isplitr; · iexact HR
    iexact Ac
  imod (close_at B K (c, some (1, s)) 14 (rounds_le (some (1, s)))) $$ [As] with As
  · isplitr; · iexact HR
    iexact As
  imod (close_at B K (c, some (2, s)) 14 (rounds_le (some (2, s)))) $$ [Av] with Av
  · isplitr; · iexact HR
    iexact Av
  imodintro
  isplitl [Hc]; · iexact Hc
  isplitl [Hr]; · iexact Hr
  isplitl [Ac]; · iexact Ac
  isplitl [As] <;> iassumption

/-- The body's last state, its cells closed. -/
theorem post_exit (c : Dev nD) (K : Dev nD × Ck → ℕ) :
    iprop(recs (BB m) K ∗ Between (xOf m) (kOf m) (wOf m) c 14 ∗ atPos ER (barCell c) 1 ∅ 0)
      ⊢ |={Set.univ}=> iprop((finish m c ∗ Pipeline.ownSems0 (Ix := ℕ) (Name := ℕ) (U := UU) (Lvl := ℕ) (Val := Elt F) (τ := τ) osem c ∗ Pipeline.scopedRest cfg0.spec c)
          ∗ (∃ W, owes (c : Thread nD τ) 0 W) ∗ Held kM c (kOf m c) ∗ Held wM c (wOf m c)) := by
  rw [show (Pipeline.scopedRest cfg0.spec c : sProp 𝕄) = _ from scopedRest0_eq c]
  unfold Between Kit Tools finish
  rw [debt_done]
  iintro ⟨#HR, ⟨HO, ⟨⟨XL, XR, ⟨%f0, B0⟩, ⟨%f1, B1⟩, Hk, Hw, H7, H8, H9⟩, ⟨%f2, B2⟩, ⟨%f3, B3⟩, H6⟩, S0, S1, M0, M1, -, -⟩, Ab⟩
  imod (side_end (BB m) K false c) $$ [S0 M0] with S0
  · isplitr; · iexact HR
    isplitl [S0] <;> iassumption
  imod (side_end (BB m) K true c) $$ [S1 M1] with S1
  · isplitr; · iexact HR
    isplitl [S1] <;> iassumption
  imod (close_at (BB m) K (c, none) 1 rounds_bar) $$ [Ab] with Ab
  · isplitr; · iexact HR
    iexact Ab
  icases S0 with ⟨O0, ⟨%f4, B4⟩, C0, D0, E0⟩
  icases S1 with ⟨O1, ⟨%f5, B5⟩, C1, D1, E1⟩
  ihave HV := (out_join c (total (BB m))) $$ [O0 O1]
  · isplitl [O0] <;> iassumption
  ihave HV := (show (Held oM c (whole (total (BB m))) : sProp 𝕄) ⊢ ((c : Thread nD τ).loc main_v1 ↦{fullShare} result m) from
    Entails.of_eq (held_whole c main_v1 (result m))) $$ HV
  ihave HX := (halves c (xOf m c)).2 $$ [XL XR]
  · isplitl [XL] <;> iassumption
  ihave HS := (sems_of_cells (F := F) c) $$ [H6 H7 H8 H9 Ab C0 D0 E0 C1 D1 E1]
  · unfold locals
    isplitl [H6 H7 H8 H9]
    · isplitl [H6]; · iexact H6
      isplitl [H7]; · iexact H7
      isplitl [H8] <;> iassumption
    rw [bigSep_ck]
    isplitl [Ab]; · iexact Ab
    isplitl [C0]; · iexact C0
    isplitl [D0]; · iexact D0
    isplitl [E0]; · iexact E0
    isplitl [C1]; · iexact C1
    isplitl [D1] <;> iassumption
  icases HS with ⟨Hown, Hun⟩
  imodintro
  isplitr [HO Hk Hw]
  · isplitl [Hun HX HV]
    · isplitl [Hun]; · iexact Hun
      isplitl [HX]; · iexact HX
      iexact HV
    isplitl [Hown]; · iexact Hown
    isplitl [B0]; · iexists f0; iapply (Entails.of_eq (held_whole c cc0_scratch0 f0)); iexact B0
    isplitl [B1]; · iexists f1; iapply (Entails.of_eq (held_whole c cc0_scratch1 f1)); iexact B1
    isplitl [B2]; · iexists f2; iapply (Entails.of_eq (held_whole c cc0_scratch2 f2)); iexact B2
    isplitl [B3]; · iexists f3; iapply (Entails.of_eq (held_whole c cc0_scratch3 f3)); iexact B3
    isplitl [B4]; · iexists f4; iapply (Entails.of_eq (held_whole c cc0_scratch4 f4)); iexact B4
    iexists f5; iapply (Entails.of_eq (held_whole c cc0_scratch5 f5)); iexact B5
  isplitl [HO]; · iexact HO
  isplitl [Hk] <;> iassumption

theorem fetch0 (w : Fin 2) (t : Fin cfg0.N) : (cfg0.win w).fetch t = true := by rw [fin_N0 t]; revert w; decide

theorem before0 (c : Dev nD) (d : _) : (dats m ρ 0 c).before (0 : Fin 2) t0_0 d = kOf m c := by
  unfold Dat.before; rw [if_pos (fetch0 0 _)]; rfl
theorem before1 (c : Dev nD) (d : _) : (dats m ρ 0 c).before (1 : Fin 2) t0_0 d = wOf m c := by
  unfold Dat.before; rw [if_pos (fetch0 1 _)]; rfl

/-- The body's row of the table, at the grid's point. -/
theorem defs₀_row (t : Fin cfg0.N) : defs₀ (F := F) .tc cfg0.body (cfg0.bodyArgs t (cfg0.slots t)) = bodyAt0 t := by
  unfold defs₀; rw [Defs.onTc_tc]

def bodyPre (c : Dev nD) : sProp (MT nD τ sig ℕ (Elt F) ℕ UU ℕ) :=
  iprop((dats m ρ 0 c).Φ t0_0.castSucc ∗ (dats m ρ 0 c).owesAt 0 t0_0.castSucc
      ∗ (∃ d, Held kM c ((dats m ρ 0 c).before (0 : Fin 2) t0_0 d)) ∗ (∃ d, Held wM c ((dats m ρ 0 c).before (1 : Fin 2) t0_0 d)))
def bodyPost (c : Dev nD) : sProp (MT nD τ sig ℕ (Elt F) ℕ UU ℕ) :=
  iprop((dats m ρ 0 c).Φ t0_0.succ ∗ (dats m ρ 0 c).owesAt 0 t0_0.succ ∗ Held kM c (kOf m c) ∗ Held wM c (wOf m c))

theorem sound_body (c : Dev nD) :
    bodyPre m ρ c ⊢ wp frame (wpE (defs₀ (F := F)) 𝒱₀ (c : Thread nD τ) none) Set.univ (bodyAt0 (F := F) t0_0) (fun _ => bodyPost m ρ c) := by
  rw [body_eq]
  unfold bodyPre bodyPost
  rw [show (dats m ρ 0 c).Φ t0_0.castSucc = iprop(start m c ∗ Pipeline.scopedRest cfg0.spec c) from rfl,
    show (dats m ρ 0 c).Φ t0_0.succ = iprop(finish m c ∗ Pipeline.ownSems0 osem c ∗ Pipeline.scopedRest cfg0.spec c) from rfl]
  unfold start
  iintro ⟨⟨⟨⟨%K, #HB⟩, HG, S0, S1, HL, HX, HV⟩, Hscr⟩, Ho, ⟨%d0, Hk⟩, ⟨%d1, Hw⟩⟩
  rw [before0, before1]
  unfold Dat.owesAt Pipeline.owesWithin
  icases Ho with ⟨%W, %hW, Ho⟩
  ihave HP := (pre_intro m c W) $$ [HG S0 S1 HL HX HV Hscr Ho Hk Hw]
  · isplitl [HG]; · iexact HG
    isplitl [S0]; · iexact S0
    isplitl [S1]; · iexact S1
    isplitl [HL]; · iexact HL
    isplitl [HX]; · iexact HX
    isplitl [HV]; · iexact HV
    isplitl [Hscr]; · iexact Hscr
    isplitl [Ho]; · iexact Ho
    isplitl [Hk] <;> iassumption
  iapply (wp_fupd frame (wpE (defs₀ (F := F)) 𝒱₀ (c : Thread nD τ) none) Set.univ)
  iapply (wp_wand frame (wpE (defs₀ (F := F)) 𝒱₀ (c : Thread nD τ) none)) $$ [HP]
  · iapply (body_run (xOf m) (kOf m) (wOf m) K c)
    isplitr; · iexact HB
    iexact HP
  iintro %_ ⟨HE, HA⟩
  unfold Base
  icases HB with ⟨#HR, -⟩
  imod (post_exit m c K) $$ [HE HA] with H
  · isplitr; · iexact HR
    isplitl [HE] <;> iassumption
  icases H with ⟨H1, ⟨%W', Ho⟩, H2, H3⟩
  imodintro
  isplitl [H1]; · iexact H1
  isplitl [Ho]
  · iexists W'
    isplitr; · ipureintro; exact fun _ _ => Or.inl trivial
    iexact Ho
  isplitl [H2] <;> iassumption

theorem body_obligation (c : Dev nD) : BodyObligation (dats (F := F) m ρ 0 c) (defs₀ (F := F)) 𝒱₀ 0 Set.univ := fun t => by
  rw [fin_N0 t, bigSep_W0, bigSep_W0, defs₀_row]
  exact triple_restated (sound_body m ρ c) rfl .rfl fun _ => .rfl

end Cert.KernelIdeal.Conv

end
-- ==== Proof.Run.lean ====
/- The run of the whole program on the eight devices, at any float values. -/
module

public import proofs.«01_k».proof.Proof.Point
public import Idealize.ShloMosaic.Lib.Pipeline.CollectiveSegs

@[expose] public section

noncomputable section

namespace Cert.KernelIdeal.Conv

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) 0 0 c :=
  Pipeline.cellsWaits_intro cfgs (dats m ρ) 0 0 c fun w s t =>
    mayWait_stage c _ _ (by
      rcases t with ⟨_ | _, ht⟩
      · exact Or.inl rfl
      · exact Or.inr rfl)

theorem side_start (s : Bool) (c : Dev nD) :
    iprop(firsts (F := F) ∗ sideCred (F := F) s c ∗ atPos ER (credCell s c) 0 ∅ 0 ∗ atPos ER (sendCell s c) 0 ∅ 0 ∗ atPos ER (recvCell s c) 0 ∅ 0
      ∗ tk (F := F) 0 s (fr s c) ∗ tk (F := F) 1 s c ∗ tk (F := F) 2 s (tgt s c)) ⊢ Side0 (F := F) s c := by
  unfold Side0 sideCred
  iintro ⟨#HF, ⟨HC, HV⟩, Ac, As, Av, T0, T1, T2⟩
  isplitl [HC HV T1 T2]
  · unfold stock tk
    simp only [bigSep_sep']
    isplitl [HC]; · iexact HC
    isplitl [HV]; · iexact HV
    isplitl [T1]; · iexact T1
    iexact T2
  isplitl [Ac]; · iexact Ac
  isplitl [Av]; · iexact Av
  isplitl [As]; · iexact As
  isplitr; · iapply (first_at (F := F) (c, some (1, s))); iexact HF
  isplitr; · iapply (first_at (F := F) (c, some (2, s))); iexact HF
  isplitr; · iapply (first_at (F := F) (fr s c, some (0, s))); iexact HF
  unfold Credits tk
  iexact T0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (BB m) c)
      ⊢ |={Set.univ}=> iprop(start m c ∗ emp) := by
  rw [Pipeline.unscopedRestP_none, show Pipeline.unscopedRest cfg0.spec c (fun b => m ((c : Thread nD τ).loc b)) = _ from unscopedRest0_eq c _]
  unfold G' payToks heads
  rw [bigSep_ck]
  iintro ⟨⟨HX, HV⟩, #Hlev, Hcr, -, ⟨%K, #HR⟩, #HF, ⟨Ab, Ac0, As0, Av0, Ac1, As1, Av1⟩, ⟨B0, B1, ⟨P0, P1, P2⟩, Q0, Q1, Q2⟩, HL⟩
  ihave Hc := (creds (F := F) c) $$ Hcr
  icases Hc with ⟨HB, S0, S1⟩
  ihave S0 := (side_start (F := F) false c) $$ [S0 Ac0 As0 Av0 P0 P1 P2]
  · isplitr; · iexact HF
    isplitl [S0]; · iexact S0
    isplitl [Ac0]; · iexact Ac0
    isplitl [As0]; · iexact As0
    isplitl [Av0]; · iexact Av0
    isplitl [P0]; · iexact P0
    isplitl [P1] <;> iassumption
  ihave S1 := (side_start (F := F) true c) $$ [S1 Ac1 As1 Av1 Q0 Q1 Q2]
  · isplitr; · iexact HF
    isplitl [S1]; · iexact S1
    isplitl [Ac1]; · iexact Ac1
    isplitl [As1]; · iexact As1
    isplitl [Av1]; · iexact Av1
    isplitl [Q0]; · iexact Q0
    isplitl [Q1] <;> iassumption
  imodintro
  unfold start Gate0 Base
  isplitl
  · isplitr
    · iexists K
      isplitr
      · iexact HR
      · iexact Hlev
    isplitl [HB Ab B0 B1]
    · isplitl [HB]; · iexact HB
      isplitl [Ab]; · iexact Ab
      isplitl [B0]; · iexact B0
      isplitr; · iapply (first_at (F := F) (fr false c, none)); iexact HF
      isplitl [B1]; · iexact B1
      iapply (first_at (F := F) (fr true c, none)); iexact HF
    isplitl [S0]; · iexact S0
    isplitl [S1]; · iexact S1
    isplitl [HL]; · iexact HL
    isplitl [HX] <;> iassumption
  · iempintro

/-- What the run leaves in a device's memory and semaphores. -/
def Left (c : Dev nD) (s : MemSt nD τ sig (Elt F)) : Prop :=
  (s.mem ((c : Thread nD τ).loc main_arg0) = m ((c : Thread nD τ).loc main_arg0) ∧ s.mem ((c : Thread nD τ).loc main_v1) = result m)
    ∧ ∀ sm : SemLoc sig, sm.isScoped .tc = false → s.sem ((c.tc : Thread nD τ), sm) = 0

theorem read_finish (c : Dev nD) (s' : Phys nD τ sig (Elt F)) :
    iprop(finish m c ∗ emp ∗ SI s') ⊢ |={Set.univ}=> iprop(⌜Left m c s'.mem⌝ ∗ SI s') := by
  unfold finish
  iintro ⟨⟨Hu, HX, HV⟩, -, HSI⟩
  icombine HSI HX gives %hx
  icombine HSI HV gives %hv
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hx, Buf.eq_of_forall_mem_univ hv⟩, hs⟩
  iexact HSI

/-- The rounds' half of the launch's element. -/
theorem rounds_part (a : UB) (b : Counters) :
    (BI.own ((embR : Emb (UB × Counters) (MT nD τ sig ℕ (Elt F) ℕ UU ℕ)).toFun (a, b)) : sProp (MT nD τ sig ℕ (Elt F) ℕ UU ℕ))
      ⊢ iprop(BI.own ((ER : Emb UB (MT nD τ sig ℕ (Elt F) ℕ UU ℕ)).toFun a)
        ∗ BI.own (((Emb.inr : Emb Counters (UB × Counters)).trans (embR : Emb (UB × Counters) (MT nD τ sig ℕ (Elt F) ℕ UU ℕ))).toFun b)) := by
  unfold ER; exact own_pair_emb (embR : Emb (UB × Counters) (MT nD τ sig ℕ (Elt F) ℕ UU ℕ)) a b

/-- What every final state of the run satisfies. -/
def Post (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v1) = result m)
    ∧ r.2.sem = fun _ => 0

set_option maxRecDepth 100000 in
/-- At any float values and from any memory with zero counters, every weakly fair run of the program on the eight devices
    terminates, leaves the arguments as they were and the counters at zero, and leaves on every device the result assembled from the
    finished sums. -/
theorem run_main : θ_run defs (onTc (τ := τ) (main (F := F))) (s₀ m ρ) (Post m) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (BB m)) (G' := G' (BB m)) (u₀ := u₀)
    (hu₀ := by
      unfold u₀
      iintro Hu
      ihave H := (ownU_pair _ _) $$ Hu
      icases H with ⟨HP, HX⟩
      ihave HX := (rounds_part _ _) $$ HX
      icases HX with ⟨HX, -⟩
      imod (fund_ring (BB m)) $$ HX with HG
      imodintro
      isplitl [HP] <;> iassumption)
    (hglob := glob (BB m))
    (hA := fun _ _ => rfl) (hpf := fun _ k => k.elim0)
    (X := start m) (Y := finish m) (Z := fun _ => iprop(emp))
    (hX := start_intro m ρ)
    (hin := fun c => by
      rw [show (dats m ρ 0 c).Φ 0 = iprop(start m c ∗ Pipeline.scopedRest cfg0.spec c) from rfl]
      iintro ⟨H, -, H'⟩
      isplitl [H] <;> iassumption)
    (hout := fun c => by
      rw [show (dats m ρ 0 c).Φ (Fin.last cfg0.N) = iprop(finish m c ∗ Pipeline.ownSems0 osem c ∗ Pipeline.scopedRest cfg0.spec c) from rfl])
    (QY := Left m) (hY := read_finish m)
    (hQ := fun s h hs => ⟨fun c => ⟨(h c).2.2.1.1,
        ((h c).1 0).trans ((dats m ρ 0 c).arrAt_in (0 : Fin 2) rfl _), ((h c).1 1).trans ((dats m ρ 0 c).arrAt_in (1 : Fin 2) rfl _),
        (h c).2.2.1.2⟩, sem_eq_zero hs fun c => (h c).2.2.2⟩)

end Cert.KernelIdeal.Conv

end
-- ==== Proof.Value.lean ====
/- The block product read at an index: the gated convolution of one device's channels, times its rows of the weights. -/
module

public import proofs.«01_k».proof.Proof.Point
public import Idealize.ShloMosaic.Lib.Pointwise
public import Idealize.ShloMosaic.Lib.IdealHost

@[expose] public section

noncomputable section

namespace Cert.KernelIdeal.Math

open Idealize.ShloMosaic Idealize.SL.Sem
open Cert.KernelIdeal Cert.KernelIdeal.Gen
open scoped BigOperators

/-! ## The mathematics, at any number of channels -/

section
variable {C : ℕ}

/-- Row `n` of the input with three rows of zeros before it. -/
def row (X : (⟨3, ![4, 2048, C]⟩ : Shape).Idx → EReal) (b : Fin 4) (n : ℕ) (l : Fin C) : EReal :=
  if h : 3 ≤ n ∧ n < 2051 then X (ix3 b ⟨n - 3, by omega⟩ l) else 0

theorem row_eq (X : (⟨3, ![4, 2048, C]⟩ : Shape).Idx → EReal) {n : ℕ} (b : Fin 4) (r : Fin 2048) (l : Fin C) (h : n = r.val + 3) : row X b n l = X (ix3 b r l) := by
  have := r.isLt
  subst h
  unfold row
  rw [dif_pos ⟨by omega, by omega⟩]
  rfl

theorem row_zero (X : (⟨3, ![4, 2048, C]⟩ : Shape).Idx → EReal) {n : ℕ} (b : Fin 4) (l : Fin C) (h : n < 3) : row X b n l = 0 := by
  unfold row
  rw [dif_neg (by omega)]

/-- The causal convolution of four taps. -/
def conv (X : (⟨3, ![4, 2048, C]⟩ : Shape).Idx → EReal) (k : (⟨2, ![4, C]⟩ : Shape).Idx → EReal) (b : Fin 4) (r : ℕ) (l : Fin C) : EReal :=
  row X b (r + 3) l * k (ix2 3 l) + row X b (r + 2) l * k (ix2 2 l) + row X b (r + 1) l * k (ix2 1 l) + row X b r l * k (ix2 0 l)

/-- A number times its logistic. -/
def silu (s : EReal) : EReal := s * Ideal.logistic s

/-- The gated convolution times the weights. -/
def mixed (X : (⟨3, ![4, 2048, C]⟩ : Shape).Idx → EReal) (k : (⟨2, ![4, C]⟩ : Shape).Idx → EReal) (w : (⟨2, ![C, 1024]⟩ : Shape).Idx → EReal)
    (b : Fin 4) (r : ℕ) (o : Fin 1024) : EReal := ∑ l : Fin C, silu (conv X k b r l) * w (ix2 l o)

end

/-! ## The kernel's operations at an index -/

theorem ix3_eq {a b c : ℕ} (i : Fin a) (j : Fin b) (k : Fin c) : Conv.ix3 (d := ![a, b, c]) i j k = ix3 i j k := by
  funext x; match x with | 0 => rfl | 1 => rfl | 2 => rfl

theorem ix2_eq {a b : ℕ} (i : Fin a) (j : Fin b) : Conv.ix2 (d := ![a, b]) i j = ix2 i j := by
  funext x; match x with | 0 => rfl | 1 => rfl

theorem prod0_apply (a : FVec Ideal S2x256x1024 .f32) (w : Vec Ideal S1024x1024 .f32) (r : Fin 256) (o : Fin 1024) :
    Conv.prod0 a w (ix3 0 r o) = ∑ l : Fin 1024, a (ix3 0 r l) * w (ix2 l o) := by
  pointwise [Conv.prod0]

theorem prod1_apply (a : FVec Ideal S2x256x1024 .f32) (w : Vec Ideal S1024x1024 .f32) (r : Fin 256) (o : Fin 1024) :
    Conv.prod1 a w (ix3 0 r o) = ∑ l : Fin 1024, a (ix3 1 r l) * w (ix2 l o) := by
  pointwise [Conv.prod1]

theorem act_apply (x3 x2 x1 x0 : Vec Ideal S2x256x1024 .f32) (k3 k2 k1 k0 : Vec Ideal S1x1024 .f32) (b : Fin 2) (r : Fin 256) (l : Fin 1024) :
    Conv.act x3 x2 x1 x0 k3 k2 k1 k0 (ix3 b r l) = silu (x3 (ix3 b r l) * k3 (ix2 0 l) + x2 (ix3 b r l) * k2 (ix2 0 l)
      + x1 (ix3 b r l) * k1 (ix2 0 l) + x0 (ix3 b r l) * k0 (ix2 0 l)) := by
  pointwise [Conv.act, Conv.tap, silu]

theorem maskHalo_apply (w : BitVec 32) (v : Vec Ideal S2x8x1024 .f32) (i : S2x8x1024.Idx) :
    Conv.maskHalo w v i = if w = 0#32 then 0 else v i := by
  pointwise [Conv.maskHalo]
  by_cases h : w = 0#32
  · subst h; rfl
  · rw [if_neg h]
    have e : Scalar.cmpi CmpIPredicate.eq w 0#32 = 0#1 := by
      show BitVec.ofBool (w == 0#32) = 0#1
      rw [beq_eq_false_iff_ne.mpr h]; rfl
    rw [e]; rfl

/-! ## The block product -/

section
variable (X : Vec Ideal S4x2048x1024 .f32) (k : Vec Ideal S4x1024 .f32) (w : Vec Ideal S1024x1024 .f32) (s : Bool) (j : Fin 8)

/-- A side's batch. -/
def batch (s : Bool) (b : Fin 2) : Fin 4 := ⟨(if s then 2 else 0) + b.val, by have := b.isLt; split <;> omega⟩

/-- The stack that the block product reads. -/
abbrev stack : Vec Ideal S2x264x1024 .f32 :=
  Conv.stacked (Conv.maskHalo (BitVec.ofNat 32 j.val) ((Conv.xH (Conv.offH s j) (Conv.offH_in s j)).view.read (Elt Ideal) X))
    ((Conv.xC (Conv.off s j) (Conv.off_in s j)).view.read (Elt Ideal) X)

theorem word_zero : BitVec.ofNat 32 j.val = 0#32 ↔ j.val = 0 := by
  revert j; decide

theorem read_chunk (b : Fin 2) (r : Fin 256) (l : Fin 1024) (h : 256 * j.val + r.val < 2048) :
    (Conv.xC (Conv.off s j) (Conv.off_in s j)).view.read (Elt Ideal) X (ix3 b r l) = X (ix3 (batch s b) ⟨256 * j.val + r.val, h⟩ l) := by
  refine congrArg X (funext fun a => ?_)
  match a with
  | 0 => exact Fin.ext (by show (if s then 2 else 0) + 1 * b.val = (if s then 2 else 0) + b.val; omega)
  | 1 => exact Fin.ext (by show 256 * j.val + 1 * r.val = 256 * j.val + r.val; omega)
  | 2 => exact Fin.ext (by show 0 + 1 * l.val = l.val; omega)

theorem read_halo (b : Fin 2) (r : Fin 8) (l : Fin 1024) (h : 256 * j.val - 8 + r.val < 2048) :
    (Conv.xH (Conv.offH s j) (Conv.offH_in s j)).view.read (Elt Ideal) X (ix3 b r l) = X (ix3 (batch s b) ⟨256 * j.val - 8 + r.val, h⟩ l) := by
  refine congrArg X (funext fun a => ?_)
  match a with
  | 0 => exact Fin.ext (by show (if s then 2 else 0) + 1 * b.val = (if s then 2 else 0) + b.val; omega)
  | 1 => exact Fin.ext (by show 256 * j.val - 8 + 1 * r.val = 256 * j.val - 8 + r.val; omega)
  | 2 => exact Fin.ext (by show 0 + 1 * l.val = l.val; omega)

/-- A window of the stack holds rows of the padded input. -/
theorem window_apply (n : ℕ) (hn : n ≤ 8) (h5 : 5 ≤ n) (b : Fin 2) (r : Fin 256) (l : Fin 1024) :
    Conv.window n hn (stack X s j) (ix3 b r l) = row X (batch s b) (256 * j.val + r.val + (n - 5)) l := by
  have hr := r.isLt
  have hj := j.isLt
  unfold Conv.window stack Conv.stacked
  show (if hi : n + r.val < 8 then _ else _) = _
  split
  next hi =>
    rw [maskHalo_apply]
    by_cases h0 : j.val = 0
    · rw [if_pos ((word_zero j).mpr h0), row_zero X _ _ (by omega)]
    · rw [if_neg (fun e => h0 ((word_zero j).mp e))]
      refine Eq.trans ?_ ((read_halo X s j b ⟨n + r.val, hi⟩ l (by show 256 * j.val - 8 + (n + r.val) < 2048; omega)).trans
        (row_eq X _ _ l (by show _ = 256 * j.val - 8 + (n + r.val) + 3; omega)).symm)
      exact congrArg ((Conv.xH (Conv.offH s j) (Conv.offH_in s j)).view.read (Elt Ideal) X) (ix3_eq b ⟨n + r.val, hi⟩ l)
  next hi =>
    refine Eq.trans ?_ ((read_chunk X s j b ⟨n + r.val - 8, by omega⟩ l (by show 256 * j.val + (n + r.val - 8) < 2048; omega)).trans
        (row_eq X _ _ l (by show _ = 256 * j.val + (n + r.val - 8) + 3; omega)).symm)
    exact congrArg ((Conv.xC (Conv.off s j) (Conv.off_in s j)).view.read (Elt Ideal) X) (ix3_eq b ⟨n + r.val - 8, (by omega : n + r.val - 8 < 256)⟩ l)

/-- A row of the filter. -/
theorem krow_apply (r : Fin 4) (l : Fin 1024) : Conv.krow r k (ix2 0 l) = k (ix2 r l) := congrArg k (ix2_eq r l)

/-- The activated rows. -/
theorem actOf_apply (b : Fin 2) (r : Fin 256) (l : Fin 1024) :
    Conv.actOf (stack X s j) k (ix3 b r l) = silu (conv X k (batch s b) (256 * j.val + r.val) l) := by
  unfold Conv.actOf
  rw [act_apply, window_apply X s j 8 (by decide) (by decide), window_apply X s j 7 (by decide) (by decide),
    window_apply X s j 6 (by decide) (by decide), window_apply X s j 5 (by decide) (by decide)]
  simp only [krow_apply]
  rfl

/-- The block product at an index. -/
theorem blkAt_apply (b : Fin 2) (r : Fin 256) (o : Fin 1024) :
    Conv.blkAt X k w (BitVec.ofNat 32 j.val) (Conv.off s j) (Conv.off_in s j) (Conv.offH s j) (Conv.offH_in s j) (ix3 b r o)
      = mixed X k w (batch s b) (256 * j.val + r.val) o := by
  unfold Conv.blkAt Conv.blkOf
  show (if b.val = 0 then Conv.prod0 (Conv.actOf (stack X s j) k) w (Conv.ix3 (d := ![1, 256, 1024]) (0 : Fin 1) r o)
    else Conv.prod1 (Conv.actOf (stack X s j) k) w (Conv.ix3 (d := ![1, 256, 1024]) (0 : Fin 1) r o)) = _
  rw [ix3_eq, prod0_apply, prod1_apply]
  unfold mixed
  simp only [actOf_apply]
  match b with
  | 0 => rfl
  | 1 => rfl

end

end Cert.KernelIdeal.Math

end
-- ==== Proof.Total.lean ====
/- The rings' sums over the devices, and the whole result. -/
module

public import proofs.«01_k».proof.Proof.Value

@[expose] public section

noncomputable section

namespace Cert.KernelIdeal.Math

open Idealize.ShloMosaic Idealize.ShloMosaic.TcCoe Idealize.SL.Sem
open Cert.KernelIdeal Cert.KernelIdeal.Gen
open scoped BigOperators

section
variable (B : Bool → Dev nD → Fin 8 → Vec Ideal S2x256x1024 .f32) (s : Bool)

/-- What a device sends at a transfer of the first seven: the products of the devices that the chunk has passed. -/
theorem V_sum (t : ℕ) (ht : t ≤ 7) (i : S2x256x1024.Idx) : ∀ c : Dev nD,
    Conv.V B s t c i = ∑ u ∈ Finset.range (t + 1), B s ((Conv.fr s)^[u] c) (Conv.ch s c t) i := by
  induction t with
  | zero => intro c; rw [Finset.sum_range_one]; rfl
  | succ t ih =>
    intro c
    rw [Finset.sum_range_succ', Conv.V, if_pos (by omega)]
    have e : (shapeCast S2x256x1024 (addf (B s c (Conv.ch s c (t + 1))) (Conv.V B s t (Conv.fr s c)) : FVec Ideal S2x256x1024 .f32)
        shapeCasts_S2x256x1024_S2x256x1024) i = B s c (Conv.ch s c (t + 1)) i + Conv.V B s t (Conv.fr s c) i := by
      pointwise
    rw [e, ih (by omega), add_comm]
    simp only [Conv.ch_fr s c t (by omega)]
    rfl

theorem passed (s : Bool) (j : Fin 8) : Function.Injective fun u : Fin 8 => (Conv.fr s)^[u.val] (Conv.fr s j) := by
  revert s j; decide

theorem ch_last (s : Bool) (j : Fin 8) : Conv.ch s (Conv.fr s j) 7 = j := by revert s j; decide

/-- A chunk's finished sum is the sum of all devices' products. -/
theorem total_sum (j : Fin 8) (i : S2x256x1024.Idx) : Conv.total B s j i = ∑ c : Fin 8, B s c j i := by
  unfold Conv.total
  rw [V_sum B s 7 (by omega), ch_last, Finset.sum_range]
  exact (Finite.injective_iff_bijective.mp (passed s j)).sum_comp fun c => B s c j i

end

/-- The windows of the filter and of the weights are the arrays. -/
theorem kOf_eq (m : (ℓ : Loc nD τ sig) → Buf (Elt Ideal) ℓ) (c : Dev nD) : Conv.kOf m c = m ((c : Thread nD τ).loc main_arg1) := by
  funext i
  refine congrArg (m ((c : Thread nD τ).loc main_arg1)) (funext fun a => ?_)
  match a with
  | 0 => exact Fin.ext (by show 0 + 1 * (i 0).val = (i 0).val; omega)
  | 1 => exact Fin.ext (by show 0 + 1 * (i 1).val = (i 1).val; omega)

theorem wOf_eq (m : (ℓ : Loc nD τ sig) → Buf (Elt Ideal) ℓ) (c : Dev nD) : Conv.wOf m c = m ((c : Thread nD τ).loc main_arg2) := by
  funext i
  refine congrArg (m ((c : Thread nD τ).loc main_arg2)) (funext fun a => ?_)
  match a with
  | 0 => exact Fin.ext (by show 0 + 1 * (i 0).val = (i 0).val; omega)
  | 1 => exact Fin.ext (by show 0 + 1 * (i 1).val = (i 1).val; omega)

theorem batch_eq (b : Fin 4) : batch (decide (2 ≤ b.val)) ⟨b.val % 2, Nat.mod_lt _ (by decide)⟩ = b := by revert b; decide

/-- The result at an index: the sum over the devices of their gated convolutions times their rows of the weights. -/
theorem result_apply (m : (ℓ : Loc nD τ sig) → Buf (Elt Ideal) ℓ) (b : Fin 4) (r : Fin 2048) (o : Fin 1024) :
    Conv.result m (ix3 b r o) = ∑ c : Fin 8, mixed (Conv.xOf m c) (Conv.kOf m c) (Conv.wOf m c) b r.val o := by
  have hb := b.isLt
  have hr := r.isLt
  unfold Conv.result Conv.whole
  rw [total_sum]
  refine Finset.sum_congr rfl fun c _ => ?_
  have e : Conv.inChunk (ix3 b r o) = ix3 ⟨b.val % 2, Nat.mod_lt _ (by decide)⟩ ⟨r.val % 256, Nat.mod_lt _ (by decide)⟩ o := ix3_eq _ _ _
  rw [e]
  refine (blkAt_apply (Conv.xOf m c) (Conv.kOf m c) (Conv.wOf m c) _ _ _ _ _).trans ?_
  have eb : batch (decide (2 ≤ ((ix3 b r o : S4x2048x1024.Idx) 0).val)) ⟨b.val % 2, Nat.mod_lt _ (by decide)⟩ = b := batch_eq b
  have er : 256 * (Conv.chunkOf (ix3 b r o)).val + (⟨r.val % 256, Nat.mod_lt _ (by decide)⟩ : Fin 256).val = r.val := by
    show 256 * (r.val / 256) + r.val % 256 = r.val; omega
  rw [eb, er]

end Cert.KernelIdeal.Math

end
-- ==== Proof.Ref.lean ====
/- The reference read at an index. -/
module

public import proofs.«01_k».proof.Proof.Value
public import proofs.«01_k».proof.Proof.Gen.ReferenceIdeal.Run

@[expose] public section

noncomputable section

namespace Cert.ReferenceIdeal.Math

open Idealize.ShloMosaic Idealize.SL.Sem
open Cert.ReferenceIdeal Cert.ReferenceIdeal.Gen
open Cert.KernelIdeal.Math (row conv silu mixed)
open scoped BigOperators

theorem exp_nonneg (x : EReal) : 0 ≤ Ideal.exp x := by
  induction x with
  | bot => exact le_rfl
  | top => exact le_top
  | coe x => exact EReal.coe_nonneg.mpr (Real.exp_pos x).le

/-- The quotient by one plus the exponential is the product with the logistic. -/
theorem div_eq_silu (x : EReal) : Ideal.div x (1 + Ideal.exp (-x)) = silu x := by
  have h : 1 + Ideal.exp (-x) ≠ 0 := by
    have := Ideal.one_add_sum_ne_zero {()} (fun _ => Ideal.exp (-x)) fun _ _ => exp_nonneg _
    rwa [Finset.sum_singleton] at this
  exact (Ideal.mul_one_div h).symm

theorem row_dite (X : (⟨3, ![4, 2048, 8192]⟩ : Shape).Idx → EReal) (b : Fin 4) (n : ℕ) (l : Fin 8192) (hn : n < 2051) :
    (if h : n < 3 then 0 else X (ix3 b ⟨n - 3, by omega⟩ l)) = row X b n l := by
  unfold row
  by_cases h : n < 3
  · rw [dif_pos h, dif_neg (by omega)]
  · rw [dif_neg h, dif_pos ⟨by omega, hn⟩]

theorem four_back (p q s t : EReal) : p + q + s + t = t + s + q + p := by
  rw [add_comm (p + q + s) t, add_comm (p + q) s, add_comm p q]
  simp only [add_assoc]

/-- The reference's result at an index. -/
theorem result_apply (m : (ℓ : Loc nD τ sig) → Buf (Elt Ideal) ℓ) (c : Dev nD) (b : Fin 4) (r : Fin 2048) (o : Fin 1024) :
    Value.res_main_v36 m c (ix3 b r o) = mixed (C := 8192) (m ((c.tc : Thread nD τ).loc main_arg0)) (m ((c.tc : Thread nD τ).loc main_arg1))
      (m ((c.tc : Thread nD τ).loc main_arg2)) b r.val o := by
  unfold Value.res_main_v36
  generalize m ((c.tc : Thread nD τ).loc main_arg0) = X
  generalize m ((c.tc : Thread nD τ).loc main_arg1) = k
  generalize m ((c.tc : Thread nD τ).loc main_arg2) = w
  pointwise
  unfold mixed
  refine Finset.sum_congr (M := EReal) rfl fun l _ => congrArg (· * (w (ix2 l o) : EReal)) ?_
  rw [div_eq_silu]
  refine congrArg silu ?_
  have h0 := row_dite X b r.val l (by omega)
  have h1 := row_dite X b (1 + r.val) l (by omega)
  have h2 := row_dite X b (2 + r.val) l (by omega)
  have h3 := Cert.KernelIdeal.Math.row_eq X b r l (rfl : r.val + 3 = r.val + 3)
  rw [h0, h1, h2, ← h3, add_comm 1 r.val, add_comm 2 r.val]
  exact four_back _ _ _ _

end Cert.ReferenceIdeal.Math

end
-- ==== Proof.Agree.lean ====
/- The kernel's result is the reference's: the devices' channels together are all the channels. -/
module

public import proofs.«01_k».proof.Proof.Total
public import proofs.«01_k».proof.Proof.Ref
public import Idealize.ShloMosaic.Lib.Layout
public import Idealize.ShloMosaic.Lib.Pipeline.ValueKit.Acc

@[expose] public section

noncomputable section

namespace Cert.KernelIdeal.Math

open Idealize.ShloMosaic Idealize.ShloMosaic.TcCoe Idealize.SL.Sem
open scoped BigOperators

section
variable (X : (⟨3, ![4, 2048, 8192]⟩ : Shape).Idx → EReal) (k : (⟨2, ![4, 8192]⟩ : Shape).Idx → EReal)
  (w : (⟨2, ![8192, 1024]⟩ : Shape).Idx → EReal) (c : Fin 8)

theorem block_x (b : Fin 4) (n : Fin 2048) (l : Fin 1024) (h : c.val * 1024 + l.val < 8192) :
    Layout.block ⟨3, ![4, 2048, 1024]⟩ ⟨3, ![4, 2048, 8192]⟩ 2 8 c X (by decide) (ix3 b n l) = X (ix3 b n ⟨c.val * 1024 + l.val, h⟩) := by
  refine congrArg X (funext fun a => ?_)
  match a with
  | 0 => rfl
  | 1 => rfl
  | 2 => rfl

theorem block_k (t : Fin 4) (l : Fin 1024) (h : c.val * 1024 + l.val < 8192) :
    Layout.block ⟨2, ![4, 1024]⟩ ⟨2, ![4, 8192]⟩ 1 8 c k (by decide) (ix2 t l) = k (ix2 t ⟨c.val * 1024 + l.val, h⟩) := by
  refine congrArg k (funext fun a => ?_)
  match a with
  | 0 => rfl
  | 1 => rfl

theorem block_w (l o : Fin 1024) (h : c.val * 1024 + l.val < 8192) :
    Layout.block ⟨2, ![1024, 1024]⟩ ⟨2, ![8192, 1024]⟩ 0 8 c w (by decide) (ix2 l o) = w (ix2 ⟨c.val * 1024 + l.val, h⟩ o) := by
  refine congrArg w (funext fun a => ?_)
  match a with
  | 0 => rfl
  | 1 => rfl

theorem row_block (b : Fin 4) (n : ℕ) (l : Fin 1024) (h : c.val * 1024 + l.val < 8192) :
    row (Layout.block ⟨3, ![4, 2048, 1024]⟩ ⟨3, ![4, 2048, 8192]⟩ 2 8 c X (by decide)) b n l = row X b n ⟨c.val * 1024 + l.val, h⟩ := by
  unfold row
  split
  next hn => exact block_x X c b ⟨n - 3, by omega⟩ l h
  next => rfl

theorem conv_block (b : Fin 4) (r : ℕ) (l : Fin 1024) (h : c.val * 1024 + l.val < 8192) :
    conv (Layout.block ⟨3, ![4, 2048, 1024]⟩ ⟨3, ![4, 2048, 8192]⟩ 2 8 c X (by decide))
      (Layout.block ⟨2, ![4, 1024]⟩ ⟨2, ![4, 8192]⟩ 1 8 c k (by decide)) b r l = conv X k b r ⟨c.val * 1024 + l.val, h⟩ := by
  unfold conv
  rw [row_block X c b _ l h, row_block X c b _ l h, row_block X c b _ l h, row_block X c b _ l h,
    block_k k c _ l h, block_k k c _ l h, block_k k c _ l h, block_k k c _ l h]

/-- The devices' products add up to the product over all channels. -/
theorem mixed_blocks (b : Fin 4) (r : ℕ) (o : Fin 1024) :
    ∑ c : Fin 8, mixed (Layout.block ⟨3, ![4, 2048, 1024]⟩ ⟨3, ![4, 2048, 8192]⟩ 2 8 c X (by decide))
      (Layout.block ⟨2, ![4, 1024]⟩ ⟨2, ![4, 8192]⟩ 1 8 c k (by decide))
      (Layout.block ⟨2, ![1024, 1024]⟩ ⟨2, ![8192, 1024]⟩ 0 8 c w (by decide)) b r o = mixed X k w b r o := by
  unfold mixed
  refine Fin.sum_mul_add_congr (S := 8) (n := 1024) fun c l h => ?_
  rw [conv_block X k c b r l h, block_w w c l o h]

end

/-- The kernel's result is the reference's. -/
theorem agree (m : (ℓ : Loc nD τ sig) → Buf (Elt Ideal) ℓ) (m' : (ℓ : Loc Cert.ReferenceIdeal.nD Cert.ReferenceIdeal.τ Cert.ReferenceIdeal.sig) → Buf (Elt Ideal) ℓ)
    (d : Dev Cert.ReferenceIdeal.nD)
    (h : ∀ c : Dev nD, m ((c : Thread nD τ).loc main_arg0) = Layout.block ⟨3, ![4, 2048, 1024]⟩ ⟨3, ![4, 2048, 8192]⟩ 2 8 c
        (m' ((d.tc : Thread Cert.ReferenceIdeal.nD Cert.ReferenceIdeal.τ).loc Cert.ReferenceIdeal.main_arg0))
      ∧ m ((c : Thread nD τ).loc main_arg1) = Layout.block ⟨2, ![4, 1024]⟩ ⟨2, ![4, 8192]⟩ 1 8 c
        (m' ((d.tc : Thread Cert.ReferenceIdeal.nD Cert.ReferenceIdeal.τ).loc Cert.ReferenceIdeal.main_arg1))
      ∧ m ((c : Thread nD τ).loc main_arg2) = Layout.block ⟨2, ![1024, 1024]⟩ ⟨2, ![8192, 1024]⟩ 0 8 c
        (m' ((d.tc : Thread Cert.ReferenceIdeal.nD Cert.ReferenceIdeal.τ).loc Cert.ReferenceIdeal.main_arg2))) :
    Conv.result m = Cert.ReferenceIdeal.Value.res_main_v36 m' d := by
  have key : ∀ (b : Fin 4) (r : Fin 2048) (o : Fin 1024), Conv.result m (ix3 b r o) = Cert.ReferenceIdeal.Value.res_main_v36 m' d (ix3 b r o) := by
    intro b r o
    rw [result_apply]
    refine Eq.trans (Finset.sum_congr rfl fun c _ => ?_) ((mixed_blocks _ _ _ b r.val o).trans
      (Cert.ReferenceIdeal.Math.result_apply m' d b r o).symm)
    rw [kOf_eq, wOf_eq, (h c).2.1, (h c).2.2, show Conv.xOf m c = _ from (h c).1]
  funext i
  have e : i = ix3 (n0 := 4) (n1 := 2048) (n2 := 1024) (i 0) (i 1) (i 2) := by
    funext a; match a with | 0 => rfl | 1 => rfl | 2 => rfl
  rw [e]
  exact key _ _ _

end Cert.KernelIdeal.Math

end
-- ==== Proof.lean ====
/- The certificate: the kernel's frames and its value from its one run, and the reference's from its own. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Agree

@[expose] public section

noncomputable section

namespace Cert.Proof

open Idealize.ShloMosaic Idealize.SL.Sem

/-- The kernel's frame at any float values: the run, its result forgotten. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩)
    (Cert.KernelIdeal.Conv.run_main (F := F) m g)

/-- The two programs of the kernel have the same text: the launch's body first. -/
theorem bodies_eq {F : FTy → Type} [FloatOps F] : Cert.Kernel.defs₀ (F := F) = Cert.KernelIdeal.defs₀ (F := F) := by
  unfold Cert.Kernel.defs₀ Cert.KernelIdeal.defs₀
  congr 1
  funext l a
  match l, a with
  | ⟨0, _⟩, (t, s) => rfl
  | ⟨n + 1, h⟩, _ => exact absurd h (Nat.not_lt.2 (Nat.le_add_left _ _))

/-- Then the table of launches over it. -/
theorem tables_eq {F : FTy → Type} [FloatOps F] : Cert.Kernel.defs (F := F) = Cert.KernelIdeal.defs (F := F) :=
  congrArg (Pipeline.defs Cert.KernelIdeal.pcfgs) bodies_eq

/-- And the program each device runs. -/
theorem mains_eq {F : FTy → Type} [FloatOps F] (c : Dev Cert.Kernel.nD) :
    Cert.Kernel.main (F := F) c = Cert.KernelIdeal.main (F := F) c := rfl

/-- The frame of the kernel at the machine's own float values. -/
theorem frame_kernel : Cert.quiescent_Kernel := fun m g _ => by
  rw [tables_eq]
  exact frame_any (F := Bits) m g

/-- The frame of the kernel over the extended reals. -/
theorem frame_ideal : Cert.quiescent_KernelIdeal := fun m g _ => frame_any (F := Ideal) m g

/-- The reference's frame: its operations' run, and no semaphore is declared. -/
theorem frame_reference : Cert.quiescent_ReferenceIdeal := fun m g _ =>
  (θ_run Cert.ReferenceIdeal.defs _ _).mono
    (fun r h => ⟨fun c => ⟨(h c).2.1, (h c).2.2.1, (h c).2.2.2⟩, sem_eq_zero_of_no_sems (by decide) r.2⟩)
    (Cert.ReferenceIdeal.Value.run (F := Ideal) m g)

/-- The value: every device of the kernel ends with the reference's result. -/
theorem value : Cert.algebraic_KernelIdeal_ReferenceIdeal := fun m g m' g' _ hm =>
  ⟨Cert.ReferenceIdeal.Value.res_main_v36 m' 0,
    (θ_run Cert.KernelIdeal.defs _ _).mono
      (fun _ h c => ⟨(h.1 c).2.2.2.trans (Cert.KernelIdeal.Math.agree m m' 0 hm), (h.1 c).1, (h.1 c).2.1, (h.1 c).2.2.1⟩)
      (Cert.KernelIdeal.Conv.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
